-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionIdeal_finite_tokens [hPre_finite_tokens : Cert.Pre_finite_tokens.Facts] (m : (ℓ : Loc Cert.ProjectionIdeal.nD Cert.ProjectionIdeal.τ Cert.ProjectionIdeal.sig) → Buf (Elt Ideal) ℓ) : Prop :=
  ∀ c : Dev Cert.ProjectionIdeal.nD,
    (Cert.Pre_finite_tokens.fn (F := Ideal) (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2)) (m ((c.tc : Thread Cert.ProjectionIdeal.nD Cert.ProjectionIdeal.τ).loc Cert.ProjectionIdeal.main_arg3))) = (fun _ => 1#1)

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_ProjectionReferenceIdeal_finite_tokens [hPre_finite_tokens : Cert.Pre_finite_tokens.Facts] (m : (ℓ : Loc Cert.ProjectionReferenceIdeal.nD Cert.ProjectionReferenceIdeal.τ Cert.ProjectionReferenceIdeal.sig) → Buf (Elt Ideal) ℓ) : Prop :=
  ∀ c : Dev Cert.ProjectionReferenceIdeal.nD,
    (Cert.Pre_finite_tokens.fn (F := Ideal) (m ((c.tc : Thread Cert.ProjectionReferenceIdeal.nD Cert.ProjectionReferenceIdeal.τ).loc Cert.ProjectionReferenceIdeal.main_arg0)) (m ((c.tc : Thread Cert.ProjectionReferenceIdeal.nD Cert.ProjectionReferenceIdeal.τ).loc Cert.ProjectionReferenceIdeal.main_arg1)) (m ((c.tc : Thread Cert.ProjectionReferenceIdeal.nD Cert.ProjectionReferenceIdeal.τ).loc Cert.ProjectionReferenceIdeal.main_arg2)) (m ((c.tc : Thread Cert.ProjectionReferenceIdeal.nD Cert.ProjectionReferenceIdeal.τ).loc Cert.ProjectionReferenceIdeal.main_arg3))) = (fun _ => 1#1)

def Pre_Experts [hPre_block_tables : Cert.Pre_block_tables.Facts] (m : (ℓ : Loc Cert.Experts.nD Cert.Experts.τ Cert.Experts.sig) → Buf (Elt Bits) ℓ) : Prop :=
  ∀ c : Dev Cert.Experts.nD,
    (Cert.Pre_block_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_block_tables : Cert.Pre_block_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_block_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_block_tables [hPre_block_tables : Cert.Pre_block_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_block_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionIdeal_pre_finite_tokens [hProjectionIdeal : Cert.ProjectionIdeal.Facts] [hPre_finite_tokens : Cert.Pre_finite_tokens.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal_finite_tokens m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_ProjectionReferenceIdeal_pre_finite_tokens [hProjectionReferenceIdeal : Cert.ProjectionReferenceIdeal.Facts] [hPre_finite_tokens : Cert.Pre_finite_tokens.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal_finite_tokens m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_Experts [hExperts : Cert.Experts.Facts] [hPre_block_tables : Cert.Pre_block_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_block_tables : Cert.Pre_block_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_block_tables [hExpertsReferenceIdeal : Cert.ExpertsReferenceIdeal.Facts] [hPre_block_tables : Cert.Pre_block_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_block_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Projection_ProjectionIdeal : Prop :=
  True

def algebraic_ProjectionIdeal_ProjectionReferenceIdeal_pre_finite_tokens [hProjectionIdeal : Cert.ProjectionIdeal.Facts] [hProjectionReferenceIdeal : Cert.ProjectionReferenceIdeal.Facts] [hPre_finite_tokens : Cert.Pre_finite_tokens.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal_finite_tokens m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v8_0)) (v1 : (c : Dev Cert.ProjectionIdeal.nD) → Buf (Elt Ideal) ((c.tc : Thread Cert.ProjectionIdeal.nD Cert.ProjectionIdeal.τ).loc Cert.ProjectionIdeal.main_v8_1)) (v2 : (c : Dev Cert.ProjectionIdeal.nD) → Buf (Elt Ideal) ((c.tc : Thread Cert.ProjectionIdeal.nD Cert.ProjectionIdeal.τ).loc Cert.ProjectionIdeal.main_v8_2)) (v3 : (c : Dev Cert.ProjectionIdeal.nD) → Buf (Elt Ideal) ((c.tc : Thread Cert.ProjectionIdeal.nD Cert.ProjectionIdeal.τ).loc Cert.ProjectionIdeal.main_v8_3)) (v4 : (c : Dev Cert.ProjectionIdeal.nD) → Buf (Elt Ideal) ((c.tc : Thread Cert.ProjectionIdeal.nD Cert.ProjectionIdeal.τ).loc Cert.ProjectionIdeal.main_v8_4)) (v5 : (c : Dev Cert.ProjectionIdeal.nD) → Buf (Elt Ideal) ((c.tc : Thread Cert.ProjectionIdeal.nD Cert.ProjectionIdeal.τ).loc Cert.ProjectionIdeal.main_v8_5)) (v6 : (c : Dev Cert.ProjectionIdeal.nD) → Buf (Elt Ideal) ((c.tc : Thread Cert.ProjectionIdeal.nD Cert.ProjectionIdeal.τ).loc Cert.ProjectionIdeal.main_v8_6)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v8_0) = v0 c
          ∧ r.2.mem ((c.tc : Thread Cert.ProjectionIdeal.nD Cert.ProjectionIdeal.τ).loc Cert.ProjectionIdeal.main_v8_1) = v1 c
          ∧ r.2.mem ((c.tc : Thread Cert.ProjectionIdeal.nD Cert.ProjectionIdeal.τ).loc Cert.ProjectionIdeal.main_v8_2) = v2 c
          ∧ r.2.mem ((c.tc : Thread Cert.ProjectionIdeal.nD Cert.ProjectionIdeal.τ).loc Cert.ProjectionIdeal.main_v8_3) = v3 c
          ∧ r.2.mem ((c.tc : Thread Cert.ProjectionIdeal.nD Cert.ProjectionIdeal.τ).loc Cert.ProjectionIdeal.main_v8_4) = v4 c
          ∧ r.2.mem ((c.tc : Thread Cert.ProjectionIdeal.nD Cert.ProjectionIdeal.τ).loc Cert.ProjectionIdeal.main_v8_5) = v5 c
          ∧ r.2.mem ((c.tc : Thread Cert.ProjectionIdeal.nD Cert.ProjectionIdeal.τ).loc Cert.ProjectionIdeal.main_v8_6) = v6 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v35) = v0 c
          ∧ r.2.mem ((c.tc : Thread Cert.ProjectionReferenceIdeal.nD Cert.ProjectionReferenceIdeal.τ).loc Cert.ProjectionReferenceIdeal.main_v36) = v1 c
          ∧ r.2.mem ((c.tc : Thread Cert.ProjectionReferenceIdeal.nD Cert.ProjectionReferenceIdeal.τ).loc Cert.ProjectionReferenceIdeal.main_v37) = v2 c
          ∧ r.2.mem ((c.tc : Thread Cert.ProjectionReferenceIdeal.nD Cert.ProjectionReferenceIdeal.τ).loc Cert.ProjectionReferenceIdeal.main_v25) = v3 c
          ∧ r.2.mem ((c.tc : Thread Cert.ProjectionReferenceIdeal.nD Cert.ProjectionReferenceIdeal.τ).loc Cert.ProjectionReferenceIdeal.main_v28) = v4 c
          ∧ r.2.mem ((c.tc : Thread Cert.ProjectionReferenceIdeal.nD Cert.ProjectionReferenceIdeal.τ).loc Cert.ProjectionReferenceIdeal.main_v29) = v5 c
          ∧ r.2.mem ((c.tc : Thread Cert.ProjectionReferenceIdeal.nD Cert.ProjectionReferenceIdeal.τ).loc Cert.ProjectionReferenceIdeal.main_v34) = v6 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_block_tables : Cert.Pre_block_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hExperts : Cert.Experts.Facts) (hExpertsIdeal : Cert.ExpertsIdeal.Facts) (hExpertsReferenceIdeal : Cert.ExpertsReferenceIdeal.Facts) (hPre_finite_scores : Cert.Pre_finite_scores.Facts) (hPre_finite_tokens : Cert.Pre_finite_tokens.Facts) (hPre_block_tables : Cert.Pre_block_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Projection (hProjection := hProjection)
    ∧ quiescent_ProjectionIdeal (hProjectionIdeal := hProjectionIdeal)
    ∧ quiescent_ProjectionIdeal_pre_finite_tokens (hProjectionIdeal := hProjectionIdeal) (hPre_finite_tokens := hPre_finite_tokens)
    ∧ quiescent_ProjectionReferenceIdeal (hProjectionReferenceIdeal := hProjectionReferenceIdeal)
    ∧ quiescent_ProjectionReferenceIdeal_pre_finite_tokens (hProjectionReferenceIdeal := hProjectionReferenceIdeal) (hPre_finite_tokens := hPre_finite_tokens)
    ∧ quiescent_Experts (hExperts := hExperts) (hPre_block_tables := hPre_block_tables)
    ∧ quiescent_ExpertsIdeal (hExpertsIdeal := hExpertsIdeal) (hPre_block_tables := hPre_block_tables)
    ∧ quiescent_ExpertsReferenceIdeal (hExpertsReferenceIdeal := hExpertsReferenceIdeal)
    ∧ quiescent_ExpertsReferenceIdeal_pre_block_tables (hExpertsReferenceIdeal := hExpertsReferenceIdeal) (hPre_block_tables := hPre_block_tables)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Projection_ProjectionIdeal
    ∧ algebraic_ProjectionIdeal_ProjectionReferenceIdeal_pre_finite_tokens (hProjectionIdeal := hProjectionIdeal) (hProjectionReferenceIdeal := hProjectionReferenceIdeal) (hPre_finite_tokens := hPre_finite_tokens)
    ∧ preserves_Experts_ExpertsIdeal
    ∧ algebraic_ExpertsIdeal_ExpertsReferenceIdeal (hExpertsIdeal := hExpertsIdeal) (hExpertsReferenceIdeal := hExpertsReferenceIdeal) (hPre_block_tables := hPre_block_tables)
-- ==== Pre_block_tables.lean ====
abbrev S82 : Shape := ⟨1, ![82]⟩
abbrev S335872x128 : Shape := ⟨2, ![335872, 128]⟩
abbrev S2x16x1024x1024 : Shape := ⟨4, ![2, 16, 1024, 1024]⟩
abbrev S_ : Shape := ⟨0, ![]⟩

class Facts : Prop where
  bcast_S_S82 : S_.BroadcastsInDim S82 (![] : Fin 0 → Fin S82.rank)
  reducesTo_S82_S_d0 : S82.ReducesTo [0] S_
  h_S_ : 0 < S_.numel

variable [Facts]

def fn {F : FTy → Type} [FloatOps F] (main_arg0 : IVec S82 32) (main_arg1 : IVec S82 32) (main_arg2 : FVec F S335872x128 .f32) (main_arg3 : FVec F S2x16x1024x1024 .f32) (main_arg4 : FVec F S2x16x1024x1024 .f32) (main_arg5 : FVec F S2x16x1024x1024 .f32) : IVec S_ 1 :=
  let main_c : IVec S_ 32 := constantI S_ 32 0#32
  let main_v0 : IVec S82 32 := broadcastInDim S82 ![] bcast_S_S82 main_c
  let main_v1 : IVec S82 1 := cmpi .sge main_arg0 main_v0
  let main_c_0 : IVec S_ 32 := constantI S_ 32 16#32
  let main_v2 : IVec S82 32 := broadcastInDim S82 ![] bcast_S_S82 main_c_0
  let main_v3 : IVec S82 1 := cmpi .slt main_arg0 main_v2
  let main_v4 : IVec S82 1 := andi main_v1 main_v3
  let main_c_1 : IVec S_ 1 := constantI S_ 1 1#1
  let main_v5 : IVec S_ 1 := (fun x v => Host.reduce IntOp.andi x v reducesTo_S82_S_d0 h_S_) main_v4 main_c_1
  let main_c_2 : IVec S_ 32 := constantI S_ 32 0#32
  let main_v6 : IVec S82 32 := broadcastInDim S82 ![] bcast_S_S82 main_c_2
  let main_v7 : IVec S82 1 := cmpi .sge main_arg1 main_v6
  let main_c_3 : IVec S_ 1 := constantI S_ 1 1#1
  let main_v8 : IVec S_ 1 := (fun x v => Host.reduce IntOp.andi x v reducesTo_S82_S_d0 h_S_) main_v7 main_c_3
  let main_v9 : IVec S_ 1 := andi main_v5 main_v8
  main_v9
-- ==== Pre_finite_scores.lean ====
abbrev S2x8448x1024 : Shape := ⟨3, ![2, 8448, 1024]⟩
abbrev S2x8448x256 : Shape := ⟨3, ![2, 8448, 256]⟩
abbrev S_ : Shape := ⟨0, ![]⟩

class Facts : Prop where
  bcast_S_S2x8448x1024 : S_.BroadcastsInDim S2x8448x1024 (![] : Fin 0 → Fin S2x8448x1024.rank)
  reducesTo_S2x8448x1024_S_d0_1_2 : S2x8448x1024.ReducesTo [0, 1, 2] S_
  h_S_ : 0 < S_.numel
  bitsLt_bf16_f32 : FTy.bits .bf16 < FTy.bits .f32
  bcast_S_S2x8448x256 : S_.BroadcastsInDim S2x8448x256 (![] : Fin 0 → Fin S2x8448x256.rank)
  reducesTo_S2x8448x256_S_d0_1_2 : S2x8448x256.ReducesTo [0, 1, 2] S_

variable [Facts]

def fn {F : FTy → Type} [FloatOps F] (main_arg0 : FVec F S2x8448x1024 .f32) (main_arg1 : FVec F S2x8448x256 .bf16) (main_arg2 : FVec F S2x8448x256 .bf16) : IVec S_ 1 :=
  let main_v0 : FVec F S2x8448x1024 .f32 := Host.absf main_arg0
  let main_cst : FVec F S_ .f32 := constant S_ .f32 0x7F800000#32
  let main_v1 : FVec F S2x8448x1024 .f32 := broadcastInDim S2x8448x1024 ![] bcast_S_S2x8448x1024 main_cst
  let main_v2 : IVec S2x8448x1024 1 := cmpf .olt main_v0 main_v1
  let main_c : IVec S_ 1 := constantI S_ 1 1#1
  let main_v3 : IVec S_ 1 := (fun x v => Host.reduce IntOp.andi x v reducesTo_S2x8448x1024_S_d0_1_2 h_S_) main_v2 main_c
  let main_v4 : FVec F S2x8448x256 .f32 := (extf .f32 · bitsLt_bf16_f32) main_arg1
  let main_v5 : FVec F S2x8448x256 .f32 := Host.absf main_v4
  let main_cst_0 : FVec F S_ .f32 := constant S_ .f32 0x7F800000#32
  let main_v6 : FVec F S2x8448x256 .f32 := broadcastInDim S2x8448x256 ![] bcast_S_S2x8448x256 main_cst_0
  let main_v7 : IVec S2x8448x256 1 := cmpf .olt main_v5 main_v6
  let main_c_1 : IVec S_ 1 := constantI S_ 1 1#1
  let main_v8 : IVec S_ 1 := (fun x v => Host.reduce IntOp.andi x v reducesTo_S2x8448x256_S_d0_1_2 h_S_) main_v7 main_c_1
  let main_v9 : IVec S_ 1 := andi main_v3 main_v8
  main_v9
-- ==== Pre_finite_tokens.lean ====
abbrev S2x256x1024 : Shape := ⟨3, ![2, 256, 1024]⟩
abbrev S2x8192x1024 : Shape := ⟨3, ![2, 8192, 1024]⟩
abbrev S2x2x6x1024 : Shape := ⟨4, ![2, 2, 6, 1024]⟩
abbrev S1024x5680 : Shape := ⟨2, ![1024, 5680]⟩
abbrev S1024x16 : Shape := ⟨2, ![1024, 16]⟩
abbrev S_ : Shape := ⟨0, ![]⟩
abbrev S1024x32 : Shape := ⟨2, ![1024, 32]⟩
abbrev S2x2x2x1024 : Shape := ⟨4, ![2, 2, 2, 1024]⟩

class Facts : Prop where
  slices_S1024x5680_S1024x16_0_3072 : S1024x5680.Slices ![0, 3072] S1024x16
  bcast_S_S1024x16 : S_.BroadcastsInDim S1024x16 (![] : Fin 0 → Fin S1024x16.rank)
  reducesTo_S1024x16_S_d0_1 : S1024x16.ReducesTo [0, 1] S_
  h_S_ : 0 < S_.numel
  slices_S1024x5680_S1024x32_0_5648 : S1024x5680.Slices ![0, 5648] S1024x32
  bcast_S_S1024x32 : S_.BroadcastsInDim S1024x32 (![] : Fin 0 → Fin S1024x32.rank)
  reducesTo_S1024x32_S_d0_1 : S1024x32.ReducesTo [0, 1] S_
  bcast_S_S2x256x1024 : S_.BroadcastsInDim S2x256x1024 (![] : Fin 0 → Fin S2x256x1024.rank)
  reducesTo_S2x256x1024_S_d0_1_2 : S2x256x1024.ReducesTo [0, 1, 2] S_
  bcast_S_S2x8192x1024 : S_.BroadcastsInDim S2x8192x1024 (![] : Fin 0 → Fin S2x8192x1024.rank)
  reducesTo_S2x8192x1024_S_d0_1_2 : S2x8192x1024.ReducesTo [0, 1, 2] S_
  slices_S2x2x6x1024_S2x2x2x1024_0_0_0_0 : S2x2x6x1024.Slices ![0, 0, 0, 0] S2x2x2x1024
  bcast_S_S2x2x2x1024 : S_.BroadcastsInDim S2x2x2x1024 (![] : Fin 0 → Fin S2x2x2x1024.rank)
  reducesTo_S2x2x2x1024_S_d0_1_2_3 : S2x2x2x1024.ReducesTo [0, 1, 2, 3] S_

variable [Facts]

def fn_part1 {F : FTy → Type} [FloatOps F] (main_arg2 : FVec F S2x2x6x1024 .f32) (main_v10 : IVec S_ 1) (main_v14 : IVec S_ 1) (main_v15 : FVec F S2x8192x1024 .f32) (main_v16 : FVec F S2x8192x1024 .f32) : IVec S_ 1 :=
  let main_v17 : IVec S2x8192x1024 1 := cmpf .olt main_v15 main_v16
  let main_c_5 : IVec S_ 1 := constantI S_ 1 1#1
  let main_v18 : IVec S_ 1 := (fun x v => Host.reduce IntOp.andi x v reducesTo_S2x8192x1024_S_d0_1_2 h_S_) main_v17 main_c_5
  let main_v19 : IVec S_ 1 := andi main_v14 main_v18
  let main_v20 : FVec F S2x2x2x1024 .f32 := (extractStridedSlice S2x2x2x1024 ![0, 0, 0, 0] · slices_S2x2x6x1024_S2x2x2x1024_0_0_0_0) main_arg2
  let main_v21 : FVec F S2x2x2x1024 .f32 := Host.absf main_v20
  let main_cst_6 : FVec F S_ .f32 := constant S_ .f32 0x7F800000#32
  let main_v22 : FVec F S2x2x2x1024 .f32 := broadcastInDim S2x2x2x1024 ![] bcast_S_S2x2x2x1024 main_cst_6
  let main_v23 : IVec S2x2x2x1024 1 := cmpf .olt main_v21 main_v22
  let main_c_7 : IVec S_ 1 := constantI S_ 1 1#1
  let main_v24 : IVec S_ 1 := (fun x v => Host.reduce IntOp.andi x v reducesTo_S2x2x2x1024_S_d0_1_2_3 h_S_) main_v23 main_c_7
  let main_v25 : IVec S_ 1 := andi main_v24 main_v10
  let main_v26 : IVec S_ 1 := andi main_v19 main_v25
  main_v26

def fn {F : FTy → Type} [FloatOps F] (main_arg0 : FVec F S2x256x1024 .f32) (main_arg1 : FVec F S2x8192x1024 .f32) (main_arg2 : FVec F S2x2x6x1024 .f32) (main_arg3 : FVec F S1024x5680 .f32) : IVec S_ 1 :=
  let main_v0 : FVec F S1024x16 .f32 := (extractStridedSlice S1024x16 ![0, 3072] · slices_S1024x5680_S1024x16_0_3072) main_arg3
  let main_v1 : FVec F S1024x16 .f32 := Host.absf main_v0
  let main_cst : FVec F S_ .f32 := constant S_ .f32 0x7F800000#32
  let main_v2 : FVec F S1024x16 .f32 := broadcastInDim S1024x16 ![] bcast_S_S1024x16 main_cst
  let main_v3 : IVec S1024x16 1 := cmpf .olt main_v1 main_v2
  let main_c : IVec S_ 1 := constantI S_ 1 1#1
  let main_v4 : IVec S_ 1 := (fun x v => Host.reduce IntOp.andi x v reducesTo_S1024x16_S_d0_1 h_S_) main_v3 main_c
  let main_v5 : FVec F S1024x32 .f32 := (extractStridedSlice S1024x32 ![0, 5648] · slices_S1024x5680_S1024x32_0_5648) main_arg3
  let main_v6 : FVec F S1024x32 .f32 := Host.absf main_v5
  let main_cst_0 : FVec F S_ .f32 := constant S_ .f32 0x7F800000#32
  let main_v7 : FVec F S1024x32 .f32 := broadcastInDim S1024x32 ![] bcast_S_S1024x32 main_cst_0
  let main_v8 : IVec S1024x32 1 := cmpf .olt main_v6 main_v7
  let main_c_1 : IVec S_ 1 := constantI S_ 1 1#1
  let main_v9 : IVec S_ 1 := (fun x v => Host.reduce IntOp.andi x v reducesTo_S1024x32_S_d0_1 h_S_) main_v8 main_c_1
  let main_v10 : IVec S_ 1 := andi main_v4 main_v9
  let main_v11 : FVec F S2x256x1024 .f32 := Host.absf main_arg0
  let main_cst_2 : FVec F S_ .f32 := constant S_ .f32 0x7F800000#32
  let main_v12 : FVec F S2x256x1024 .f32 := broadcastInDim S2x256x1024 ![] bcast_S_S2x256x1024 main_cst_2
  let main_v13 : IVec S2x256x1024 1 := cmpf .olt main_v11 main_v12
  let main_c_3 : IVec S_ 1 := constantI S_ 1 1#1
  let main_v14 : IVec S_ 1 := (fun x v => Host.reduce IntOp.andi x v reducesTo_S2x256x1024_S_d0_1_2 h_S_) main_v13 main_c_3
  let main_v15 : FVec F S2x8192x1024 .f32 := Host.absf main_arg1
  let main_cst_4 : FVec F S_ .f32 := constant S_ .f32 0x7F800000#32
  let main_v16 : FVec F S2x8192x1024 .f32 := broadcastInDim S2x8192x1024 ![] bcast_S_S2x8192x1024 main_cst_4
  fn_part1 (F := F) main_arg2 main_v10 main_v14 main_v15 main_v16
-- ==== Kernel.lean ====
abbrev S2x8448x1024 : Shape := ⟨3, ![2, 8448, 1024]⟩
abbrev S2x8448x256 : Shape := ⟨3, ![2, 8448, 256]⟩
abbrev S_ : Shape := ⟨0, ![]⟩
abbrev S2x2x4224x2x128 : Shape := ⟨5, ![2, 2, 4224, 2, 128]⟩
abbrev S2x2x2x128x4224 : Shape := ⟨5, ![2, 2, 2, 128, 4224]⟩
abbrev S2x8192x1024 : Shape := ⟨3, ![2, 8192, 1024]⟩
abbrev S1x256x512 : Shape := ⟨3, ![1, 256, 512]⟩
abbrev S1x8448x128 : Shape := ⟨3, ![1, 8448, 128]⟩
abbrev S1x1x2x128x4224 : Shape := ⟨5, ![1, 1, 2, 128, 4224]⟩
abbrev S2x4x4224x256 : Shape := ⟨4, ![2, 4, 4224, 256]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S1x4224x128 : Shape := ⟨3, ![1, 4224, 128]⟩
abbrev S4224x128 : Shape := ⟨2, ![4224, 128]⟩
abbrev S4224x256 : Shape := ⟨2, ![4224, 256]⟩
abbrev S1x1x4224x256 : Shape := ⟨4, ![1, 1, 4224, 256]⟩
abbrev S1x1x1x128x4224 : Shape := ⟨5, ![1, 1, 1, 128, 4224]⟩
abbrev S128x4224 : Shape := ⟨2, ![128, 4224]⟩
abbrev S256 : Shape := ⟨1, ![256]⟩

abbrev nBuf : Space → Nat
  | .hbm => 16
  | .vmem => 11
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .bf16⟩
  | .hbm, ⟨2, _⟩ => ⟨S2x8448x256, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8448x1024, .f32⟩
  | .hbm, ⟨11, _⟩ => ⟨S2x8448x1024, .f32⟩
  | .hbm, ⟨12, _⟩ => ⟨S2x8448x1024, .bf16⟩
  | .hbm, ⟨13, _⟩ => ⟨S2x2x4224x2x128, .bf16⟩
  | .hbm, ⟨14, _⟩ => ⟨S2x2x2x128x4224, .bf16⟩
  | .hbm, ⟨15, _⟩ => ⟨S2x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x1x2x128x4224, .bf16⟩
  | .local _ .vmem, ⟨7, _⟩ => ⟨S1x1x2x128x4224, .bf16⟩
  | .local _ .vmem, ⟨8, _⟩ => ⟨S1x256x512, .bf16⟩
  | .local _ .vmem, ⟨9, _⟩ => ⟨S1x256x512, .bf16⟩
  | .local _ .vmem, ⟨10, _⟩ => ⟨S2x4x4224x256, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v32 : BitVec 1 := Scalar.cmpi .eq arg2 c0_i32
  let v33 : BitVec 32 := Scalar.extui v32
  let c0_i32_19 : BitVec 32 := 0#32
  let v34 : BitVec 1 := Scalar.cmpi .ne v33 c0_i32_19
  v34

def k0_mult1 : BitVec 32 :=
  let c0_i32_155 : BitVec 32 := 0#32
  c0_i32_155
def k0_mult2 : BitVec 32 :=
  let c4224_i32 : BitVec 32 := 4224#32
  c4224_i32
def k0_mult3 : BitVec 32 :=
  let c0_i32_87 : BitVec 32 := 0#32
  c0_i32_87
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c1_i32_0 : BitVec 32 := 1#32
  let v2 : BitVec 32 := Scalar.addi v1 c1_i32_0
  let c0_i32 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x128x4224 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8448x1024 : Shape := ⟨3, ![2, 8448, 1024]⟩
abbrev S2x8448x256 : Shape := ⟨3, ![2, 8448, 256]⟩
abbrev S2x8192x1024 : Shape := ⟨3, ![2, 8192, 1024]⟩
abbrev S2x8192x2x4x128 : Shape := ⟨5, ![2, 8192, 2, 4, 128]⟩
abbrev S2x8448x2x128 : Shape := ⟨4, ![2, 8448, 2, 128]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 33
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .bf16⟩
  | .hbm, ⟨2, _⟩ => ⟨S2x8448x256, .bf16⟩
  | .hbm, ⟨3, _⟩ => ⟨S2x8192x1024, .f32⟩
  | .hbm, ⟨4, _⟩ => ⟨S2x8192x2x4x128, .f32⟩
  | .hbm, ⟨5, _⟩ => ⟨S2x8448x256, .f32⟩
  | .hbm, ⟨6, _⟩ => ⟨S2x8448x2x128, .f32⟩
  | .hbm, ⟨7, _⟩ => ⟨S2x8448x256, .f32⟩
  | .hbm, ⟨8, _⟩ => ⟨S2x8448x2x128, .f32⟩
  | .hbm, ⟨9, _⟩ => ⟨S2x2x8448x8192x4, .f32⟩
  | .hbm, ⟨10, _⟩ => ⟨S2x2x4x8192x8448, .f32⟩
  | .hbm, ⟨11, _⟩ => ⟨S_, .f32⟩
  | .hbm, ⟨12, _⟩ => ⟨S_, .f32⟩
  | .hbm, ⟨13, _⟩ => ⟨S2x2x4x8192x8448, .f32⟩
  | .hbm, ⟨14, _⟩ => ⟨S2x2x4x8192x8448, .f32⟩
  | .hbm, ⟨15, _⟩ => ⟨S_, .f32⟩
  | .hbm, ⟨16, _⟩ => ⟨S2x2x4x8192, .f32⟩
  | .hbm, ⟨17, _⟩ => ⟨S_, .f32⟩
  | .hbm, ⟨18, _⟩ => ⟨S2x2x4x8192, .f32⟩
  | .hbm, ⟨19, _⟩ => ⟨S2x2x4x8192, .f32⟩
  | .hbm, ⟨20, _⟩ => ⟨S2x2x4x8192x1, .f32⟩
  | .hbm, ⟨21, _⟩ => ⟨S2x2x4x8192x8448, .f32⟩
  | .hbm, ⟨22, _⟩ => ⟨S2x2x4x8192x8448, .f32⟩
  | .hbm, ⟨23, _⟩ => ⟨S2x2x4x8192x8448, .f32⟩
  | .hbm, ⟨24, _⟩ => ⟨S_, .f32⟩
  | .hbm, ⟨25, _⟩ => ⟨S2x2x4x8192, .f32⟩
  | .hbm, ⟨26, _⟩ => ⟨S2x2x4x8192x1, .f32⟩
  | .hbm, ⟨27, _⟩ => ⟨S2x2x4x8192x8448, .f32⟩
  | .hbm, ⟨28, _⟩ => ⟨S2x2x4x8192x8448, .f32⟩
  | .hbm, ⟨29, _⟩ => ⟨S2x2x128x4x8192, .f32⟩
  | .hbm, ⟨30, _⟩ => ⟨S2x8192x2x4x128, .f32⟩
  | .hbm, ⟨31, _⟩ => ⟨S2x8192x1024, .f32⟩
  | .hbm, ⟨32, _⟩ => ⟨S2x8192x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Projection.lean ====
abbrev S2x256x1024 : Shape := ⟨3, ![2, 256, 1024]⟩
abbrev S2x8192x1024 : Shape := ⟨3, ![2, 8192, 1024]⟩
abbrev S2x2x6x1024 : Shape := ⟨4, ![2, 2, 6, 1024]⟩
abbrev S1024x5680 : Shape := ⟨2, ![1024, 5680]⟩
abbrev S1024x3072 : Shape := ⟨2, ![1024, 3072]⟩
abbrev S1024x2560 : Shape := ⟨2, ![1024, 2560]⟩
abbrev S1024x5632 : Shape := ⟨2, ![1024, 5632]⟩
abbrev S1024x16 : Shape := ⟨2, ![1024, 16]⟩
abbrev S1024x32 : Shape := ⟨2, ![1024, 32]⟩
abbrev S1024x48 : Shape := ⟨2, ![1024, 48]⟩
abbrev S_ : Shape := ⟨0, ![]⟩
abbrev S1024x128 : Shape := ⟨2, ![1024, 128]⟩
abbrev S2x8448x512 : Shape := ⟨3, ![2, 8448, 512]⟩
abbrev S2x8448x1024 : Shape := ⟨3, ![2, 8448, 1024]⟩
abbrev S2x8448x1536 : Shape := ⟨3, ![2, 8448, 1536]⟩
abbrev S2x8448x128 : Shape := ⟨3, ![2, 8448, 128]⟩
abbrev S1x256x1024 : Shape := ⟨3, ![1, 256, 1024]⟩
abbrev S1x1x6x1024 : Shape := ⟨4, ![1, 1, 6, 1024]⟩
abbrev S1x256x512 : Shape := ⟨3, ![1, 256, 512]⟩
abbrev S1x256x1536 : Shape := ⟨3, ![1, 256, 1536]⟩
abbrev S1x256x128 : Shape := ⟨3, ![1, 256, 128]⟩
abbrev S256x1024 : Shape := ⟨2, ![256, 1024]⟩
abbrev S6x1024 : Shape := ⟨2, ![6, 1024]⟩
abbrev S1x1024 : Shape := ⟨2, ![1, 1024]⟩
abbrev S1024x512 : Shape := ⟨2, ![1024, 512]⟩
abbrev S256x512 : Shape := ⟨2, ![256, 512]⟩
abbrev S1024x1024 : Shape := ⟨2, ![1024, 1024]⟩
abbrev S1024x1536 : Shape := ⟨2, ![1024, 1536]⟩
abbrev S256x1536 : Shape := ⟨2, ![256, 1536]⟩
abbrev S256x128 : Shape := ⟨2, ![256, 128]⟩

abbrev nBuf : Space → Nat
  | .hbm => 21
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x2x6x1024, .f32⟩
  | .hbm, ⟨3, _⟩ => ⟨S1024x5680, .f32⟩
  | .hbm, ⟨4, _⟩ => ⟨S1024x3072, .f32⟩
  | .hbm, ⟨5, _⟩ => ⟨S1024x2560, .f32⟩
  | .hbm, ⟨6, _⟩ => ⟨S1024x5632, .f32⟩
  | .hbm, ⟨7, _⟩ => ⟨S1024x5632, .bf16⟩
  | .hbm, ⟨8, _⟩ => ⟨S1024x16, .f32⟩
  | .hbm, ⟨9, _⟩ => ⟨S1024x32, .f32⟩
  | .hbm, ⟨10, _⟩ => ⟨S1024x48, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S2x8448x512, .bf16⟩
  | .hbm, ⟨15, _⟩ => ⟨S2x8448x512, .bf16⟩
  | .hbm, ⟨16, _⟩ => ⟨S2x8448x1024, .bf16⟩
  | .hbm, ⟨17, _⟩ => ⟨S2x8448x1024, .f32⟩
  | .hbm, ⟨18, _⟩ => ⟨S2x8448x1024, .f32⟩
  | .hbm, ⟨19, _⟩ => ⟨S2x8448x1536, .f32⟩
  | .hbm, ⟨20, _⟩ => ⟨S2x8448x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1024x5632, .bf16⟩
  | .local _ .vmem, ⟨7, _⟩ => ⟨S1024x128, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1536, .f32⟩
  | .local _ .vmem, ⟨19, _⟩ => ⟨S1x256x1536, .f32⟩
  | .local _ .vmem, ⟨20, _⟩ => ⟨S1x256x128, .f32⟩
  | .local _ .vmem, ⟨21, _⟩ => ⟨S1x256x128, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjectionReferenceIdeal.lean ====
abbrev S2x256x1024 : Shape := ⟨3, ![2, 256, 1024]⟩
abbrev S2x8192x1024 : Shape := ⟨3, ![2, 8192, 1024]⟩
abbrev S2x2x6x1024 : Shape := ⟨4, ![2, 2, 6, 1024]⟩
abbrev S1024x5680 : Shape := ⟨2, ![1024, 5680]⟩
abbrev S2x1x1x1024 : Shape := ⟨4, ![2, 1, 1, 1024]⟩
abbrev S2x1x1024 : Shape := ⟨3, ![2, 1, 1024]⟩
abbrev S_ : Shape := ⟨0, ![]⟩
abbrev S2x8448x1024 : Shape := ⟨3, ![2, 8448, 1024]⟩
abbrev S2x8448x5680 : Shape := ⟨3, ![2, 8448, 5680]⟩
abbrev S2x8448x512 : Shape := ⟨3, ![2, 8448, 512]⟩
abbrev S2x8448x8 : Shape := ⟨3, ![2, 8448, 8]⟩
abbrev S2x8448x1536 : Shape := ⟨3, ![2, 8448, 1536]⟩
abbrev S2x8448x32 : Shape := ⟨3, ![2, 8448, 32]⟩
abbrev S2x8448x48 : Shape := ⟨3, ![2, 8448, 48]⟩
abbrev S2x8448x128 : Shape := ⟨3, ![2, 8448, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x2x6x1024, .f32⟩
  | .hbm, ⟨3, _⟩ => ⟨S1024x5680, .f32⟩
  | .hbm, ⟨4, _⟩ => ⟨S2x1x1x1024, .f32⟩
  | .hbm, ⟨5, _⟩ => ⟨S2x1x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x256x1024, .f32⟩
  | .hbm, ⟨10, _⟩ => ⟨S2x256x1024, .f32⟩
  | .hbm, ⟨11, _⟩ => ⟨S2x1x1x1024, .f32⟩
  | .hbm, ⟨12, _⟩ => ⟨S2x1x1024, .f32⟩
  | .hbm, ⟨13, _⟩ => ⟨S2x256x1024, .f32⟩
  | .hbm, ⟨14, _⟩ => ⟨S2x256x1024, .f32⟩
  | .hbm, ⟨15, _⟩ => ⟨S2x1x1x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x8192x1024, .f32⟩
  | .hbm, ⟨21, _⟩ => ⟨S2x8192x1024, .f32⟩
  | .hbm, ⟨22, _⟩ => ⟨S2x1x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8448x1024, .f32⟩
  | .hbm, ⟨27, _⟩ => ⟨S2x8448x5680, .f32⟩
  | .hbm, ⟨28, _⟩ => ⟨S2x8448x512, .f32⟩
  | .hbm, ⟨29, _⟩ => ⟨S2x8448x512, .f32⟩
  | .hbm, ⟨30, _⟩ => ⟨S2x8448x1024, .f32⟩
  | .hbm, ⟨31, _⟩ => ⟨S2x8448x1024, .f32⟩
  | .hbm, ⟨32, _⟩ => ⟨S2x8448x8, .f32⟩
  | .hbm, ⟨33, _⟩ => ⟨S2x8448x8, .f32⟩
  | .hbm, ⟨34, _⟩ => ⟨S2x8448x1024, .f32⟩
  | .hbm, ⟨35, _⟩ => ⟨S2x8448x1536, .f32⟩
  | .hbm, ⟨36, _⟩ => ⟨S2x8448x32, .f32⟩
  | .hbm, ⟨37, _⟩ => ⟨S_, .f32⟩
  | .hbm, ⟨38, _⟩ => ⟨S2x8448x512, .f32⟩
  | .hbm, ⟨39, _⟩ => ⟨S2x8448x512, .f32⟩
  | .hbm, ⟨40, _⟩ => ⟨S2x8448x48, .f32⟩
  | .hbm, ⟨41, _⟩ => ⟨S_, .i32⟩
  | .hbm, ⟨42, _⟩ => ⟨S_, .f32⟩
  | .hbm, ⟨43, _⟩ => ⟨S2x8448x128, .f32⟩
  | .hbm, ⟨44, _⟩ => ⟨S2x8448x512, .bf16⟩
  | .hbm, ⟨45, _⟩ => ⟨S2x8448x512, .bf16⟩
  | .hbm, ⟨46, _⟩ => ⟨S2x8448x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Experts.lean ====
abbrev S82 : Shape := ⟨1, ![82]⟩
abbrev S335872x128 : Shape := ⟨2, ![335872, 128]⟩
abbrev S2x16x1024x1024 : Shape := ⟨4, ![2, 16, 1024, 1024]⟩
abbrev S4096x128 : Shape := ⟨2, ![4096, 128]⟩
abbrev S1x1x1024x1024 : Shape := ⟨4, ![1, 1, 1024, 1024]⟩
abbrev S1 : Shape := ⟨1, ![1]⟩
abbrev S1024x1024 : Shape := ⟨2, ![1024, 1024]⟩
abbrev S512x128 : Shape := ⟨2, ![512, 128]⟩
abbrev S512x1024 : Shape := ⟨2, ![512, 1024]⟩

abbrev nBuf : Space → Nat
  | .hbm => 5
  | .vmem => 13
  | .smem => 2
  | _ => 0

abbrev bufTy : (tb : Table) → Fin (tcTables nBuf tb) → BufTy
  | .hbm, ⟨0, _⟩ => ⟨S335872x128, .f32⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S335872x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S4096x128, .f32⟩
  | .local _ .vmem, ⟨9, _⟩ => ⟨S4096x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S82, .i32⟩
  | .local _ .smem, ⟨1, _⟩ => ⟨S82, .i32⟩
  | _, _ => ⟨S335872x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![82], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (v7 : BitVec 32) : BitVec 1 :=
  let c0_i32_2 : BitVec 32 := 0#32
  let v13 : BitVec 1 := Scalar.cmpi .sgt v7 c0_i32_2
  let v14 : BitVec 32 := Scalar.extui v13
  let c0_i32_3 : BitVec 32 := 0#32
  let v15 : BitVec 1 := Scalar.cmpi .ne v14 c0_i32_3
  v15

def k0_cond3 (v7 : BitVec 32) : BitVec 1 :=
  let c0_i32_4 : BitVec 32 := 0#32
  let v16 : BitVec 1 := Scalar.cmpi .eq v7 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S82.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S82.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S82.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S82 : Shape := ⟨1, ![82]⟩
abbrev S335872x128 : Shape := ⟨2, ![335872, 128]⟩
abbrev S2x16x1024x1024 : Shape := ⟨4, ![2, 16, 1024, 1024]⟩
abbrev S82x512x1024 : Shape := ⟨3, ![82, 512, 1024]⟩
abbrev S1x16x1024x1024 : Shape := ⟨4, ![1, 16, 1024, 1024]⟩
abbrev S16x1024x1024 : Shape := ⟨3, ![16, 1024, 1024]⟩
abbrev S_ : Shape := ⟨0, ![]⟩
abbrev S82x1 : Shape := ⟨2, ![82, 1]⟩
abbrev S82x1024x1024 : Shape := ⟨3, ![82, 1024, 1024]⟩
abbrev S82x1x1 : Shape := ⟨3, ![82, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S82, .i32⟩
  | .hbm, ⟨1, _⟩ => ⟨S82, .i32⟩
  | .hbm, ⟨2, _⟩ => ⟨S335872x128, .f32⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S82x512x1024, .f32⟩
  | .hbm, ⟨7, _⟩ => ⟨S1x16x1024x1024, .f32⟩
  | .hbm, ⟨8, _⟩ => ⟨S16x1024x1024, .f32⟩
  | .hbm, ⟨9, _⟩ => ⟨S_, .i32⟩
  | .hbm, ⟨10, _⟩ => ⟨S82, .i32⟩
  | .hbm, ⟨11, _⟩ => ⟨S82, .i1⟩
  | .hbm, ⟨12, _⟩ => ⟨S_, .i32⟩
  | .hbm, ⟨13, _⟩ => ⟨S82, .i32⟩
  | .hbm, ⟨14, _⟩ => ⟨S82, .i32⟩
  | .hbm, ⟨15, _⟩ => ⟨S82, .i32⟩
  | .hbm, ⟨16, _⟩ => ⟨S82x1, .i32⟩
  | .hbm, ⟨17, _⟩ => ⟨S82x1024x1024, .f32⟩
  | .hbm, ⟨18, _⟩ => ⟨S1x16x1024x1024, .f32⟩
  | .hbm, ⟨19, _⟩ => ⟨S16x1024x1024, .f32⟩
  | .hbm, ⟨20, _⟩ => ⟨S_, .i32⟩
  | .hbm, ⟨21, _⟩ => ⟨S82, .i32⟩
  | .hbm, ⟨22, _⟩ => ⟨S82, .i1⟩
  | .hbm, ⟨23, _⟩ => ⟨S_, .i32⟩
  | .hbm, ⟨24, _⟩ => ⟨S82, .i32⟩
  | .hbm, ⟨25, _⟩ => ⟨S82, .i32⟩
  | .hbm, ⟨26, _⟩ => ⟨S82, .i32⟩
  | .hbm, ⟨27, _⟩ => ⟨S82x1, .i32⟩
  | .hbm, ⟨28, _⟩ => ⟨S82x1024x1024, .f32⟩
  | .hbm, ⟨29, _⟩ => ⟨S1x16x1024x1024, .f32⟩
  | .hbm, ⟨30, _⟩ => ⟨S16x1024x1024, .f32⟩
  | .hbm, ⟨31, _⟩ => ⟨S_, .i32⟩
  | .hbm, ⟨32, _⟩ => ⟨S82, .i32⟩
  | .hbm, ⟨33, _⟩ => ⟨S82, .i1⟩
  | .hbm, ⟨34, _⟩ => ⟨S_, .i32⟩
  | .hbm, ⟨35, _⟩ => ⟨S82, .i32⟩
  | .hbm, ⟨36, _⟩ => ⟨S82, .i32⟩
  | .hbm, ⟨37, _⟩ => ⟨S82, .i32⟩
  | .hbm, ⟨38, _⟩ => ⟨S82x1, .i32⟩
  | .hbm, ⟨39, _⟩ => ⟨S82x1024x1024, .f32⟩
  | .hbm, ⟨40, _⟩ => ⟨S82x512x1024, .f32⟩
  | .hbm, ⟨41, _⟩ => ⟨S82x512x1024, .f32⟩
  | .hbm, ⟨42, _⟩ => ⟨S82x512x1024, .f32⟩
  | .hbm, ⟨43, _⟩ => ⟨S_, .f32⟩
  | .hbm, ⟨44, _⟩ => ⟨S82x512x1024, .f32⟩
  | .hbm, ⟨45, _⟩ => ⟨S82x512x1024, .f32⟩
  | .hbm, ⟨46, _⟩ => ⟨S_, .f32⟩
  | .hbm, ⟨47, _⟩ => ⟨S82x512x1024, .f32⟩
  | .hbm, ⟨48, _⟩ => ⟨S82x512x1024, .f32⟩
  | .hbm, ⟨49, _⟩ => ⟨S82x512x1024, .f32⟩
  | .hbm, ⟨50, _⟩ => ⟨S82x512x1024, .f32⟩
  | .hbm, ⟨51, _⟩ => ⟨S82x512x1024, .f32⟩
  | .hbm, ⟨52, _⟩ => ⟨S82x512x1024, .f32⟩
  | .hbm, ⟨53, _⟩ => ⟨S_, .i32⟩
  | .hbm, ⟨54, _⟩ => ⟨S82, .i32⟩
  | .hbm, ⟨55, _⟩ => ⟨S82, .i1⟩
  | .hbm, ⟨56, _⟩ => ⟨S82x1x1, .i1⟩
  | .hbm, ⟨57, _⟩ => ⟨S_, .f32⟩
  | .hbm, ⟨58, _⟩ => ⟨S_, .f32⟩
  | .hbm, ⟨59, _⟩ => ⟨S82x512x1024, .i1⟩
  | .hbm, ⟨60, _⟩ => ⟨S82x512x1024, .f32⟩
  | .hbm, ⟨61, _⟩ => ⟨S82x512x1024, .f32⟩
  | .hbm, ⟨62, _⟩ => ⟨S335872x128, .f32⟩
  | _, _ => ⟨S82, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Proof.Softmax.lean ====
/-
  The mathematics of the claim, with no program in it: over the extended reals, with real scores and any
  values, the softmax taken in two blocks of keys with a running maximum, in powers of two, is the softmax
  taken at once, in powers of e. Neither depends on which real number is subtracted from the scores, so all
  that is used of a maximum is that it is real.
-/
module

public import Idealize.ShloMosaic.PureOps.Ideal
public import Mathlib.Analysis.SpecialFunctions.Pow.Real

@[expose] public section

noncomputable section

namespace Cert.Softmax

open Idealize.ShloMosaic

/-- A value that is a real number. -/
def IsReal (x : EReal) : Prop := ∃ r : ℝ, x = (r : EReal)

theorem isReal_coe (r : ℝ) : IsReal (r : EReal) := ⟨r, rfl⟩

theorem coe_toReal {x : EReal} (h : IsReal x) : ((x.toReal : ℝ) : EReal) = x := by
  obtain ⟨r, rfl⟩ := h; rfl

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem isReal_of_abs_lt {x : EReal} (h : max x (-x) < ⊤) : IsReal x := by
  induction x with
  | bot => simp at h
  | top => simp at h
  | coe r => exact ⟨r, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of real numbers, from minus infinity, is real when there is at least one. -/
theorem isReal_fold_max {ι : Type*} (s : Finset ι) (f : ι → EReal) (hs : s.Nonempty) (h : ∀ i ∈ s, IsReal (f i)) :
    IsReal (s.fold max ⊥ f) := by
  obtain ⟨i, hi, e⟩ := Finset.exists_mem_eq_sup s hs f
  have : s.fold max ⊥ f = s.sup f := rfl
  rw [this, e]
  exact h i hi

/-- A nonnegative real factor goes into a sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A quotient by a positive real number is a product with its inverse. -/
theorem div_coe (x : EReal) {c : ℝ} (hc : 0 < c) : Ideal.div x (c : EReal) = ((c⁻¹ : ℝ) : EReal) * x := by
  have h : (c : EReal) ≠ 0 := by exact_mod_cast hc.ne'
  rw [Ideal.div, if_neg h, ← EReal.coe_inv, mul_comm]

theorem exp2_sub (a b : ℝ) : Ideal.exp2 ((a : EReal) - (b : EReal)) = (((2 : ℝ) ^ (a - b) : ℝ) : EReal) := by
  rw [← EReal.coe_sub]; rfl

theorem exp_sub (a b : ℝ) : Ideal.exp ((a : EReal) - (b : EReal)) = ((Real.exp (a - b) : ℝ) : EReal) := by
  rw [← EReal.coe_sub]; rfl

/-- What the two-block running softmax computes from the scores `s`, `s'` and the values `v`, `v'` of two
    blocks of keys, with maxima `m` and `m'`: every value times its share of the sum of all weights. -/
theorem two_blocks {ι : Type*} [Fintype ι] [Nonempty ι] (s s' : ι → ℝ) (v v' : ι → EReal) (m m' : ℝ) :
    Ideal.div
        (Ideal.exp2 ((m : EReal) - m') * (Ideal.exp2 (⊥ - (m : EReal)) * 0 + ∑ i, v i * Ideal.exp2 ((s i : EReal) - m))
          + ∑ i, v' i * Ideal.exp2 ((s' i : EReal) - m'))
        (Ideal.exp2 ((m : EReal) - m') * (Ideal.exp2 (⊥ - (m : EReal)) * 0 + ∑ i, Ideal.exp2 ((s i : EReal) - m))
          + ∑ i, Ideal.exp2 ((s' i : EReal) - m'))
      = (∑ i, v i * (((2 : ℝ) ^ s i / (∑ j, (2 : ℝ) ^ s j + ∑ j, (2 : ℝ) ^ s' j) : ℝ) : EReal))
        + ∑ i, v' i * (((2 : ℝ) ^ s' i / (∑ j, (2 : ℝ) ^ s j + ∑ j, (2 : ℝ) ^ s' j) : ℝ) : EReal) := by
  have h2 : (0 : ℝ) < 2 := two_pos
  have hp : ∀ x : ℝ, 0 < (2 : ℝ) ^ x := fun x => Real.rpow_pos_of_pos h2 x
  have hS : 0 < ∑ j, (2 : ℝ) ^ s j := Finset.sum_pos (fun j _ => hp _) Finset.univ_nonempty
  have hS' : 0 < ∑ j, (2 : ℝ) ^ s' j := Finset.sum_pos (fun j _ => hp _) Finset.univ_nonempty
  have hW := add_pos hS hS'
  set W : ℝ := ∑ j, (2 : ℝ) ^ s j + ∑ j, (2 : ℝ) ^ s' j with hWdef
  simp only [exp2_sub, mul_zero, zero_add]
  -- the sum of the weights is the positive real `W / 2 ^ m'`
  have hden : (((2 : ℝ) ^ (m - m') : ℝ) : EReal) * (∑ i, (((2 : ℝ) ^ (s i - m) : ℝ) : EReal)) + ∑ i, (((2 : ℝ) ^ (s' i - m') : ℝ) : EReal)
      = ((W / (2 : ℝ) ^ m' : ℝ) : EReal) := by
    rw [← coe_sum, ← coe_sum, ← EReal.coe_mul, ← EReal.coe_add]
    congr 1
    simp only [Real.rpow_sub h2, ← Finset.sum_div]
    rw [hWdef]
    have := (hp m).ne'
    have := (hp m').ne'
    field_simp
  rw [hden, div_coe _ (div_pos hW (hp m')), coe_mul_sum _ (hp _).le,
    EReal.left_distrib_of_nonneg_of_ne_top (by exact_mod_cast (inv_pos.mpr (div_pos hW (hp m'))).le) (EReal.coe_ne_top _),
    coe_mul_sum _ (inv_pos.mpr (div_pos hW (hp m'))).le, coe_mul_sum _ (inv_pos.mpr (div_pos hW (hp m'))).le]
  congr 1
  · refine Finset.sum_congr rfl fun i _ => ?_
    rw [mul_comm (v i), mul_comm (v i), ← mul_assoc, ← mul_assoc, ← EReal.coe_mul, ← EReal.coe_mul]
    congr 2
    simp only [Real.rpow_sub h2]
    have := (hp m).ne'
    have := (hp m').ne'
    field_simp
  · refine Finset.sum_congr rfl fun i _ => ?_
    rw [mul_comm (v' i), mul_comm (v' i), ← mul_assoc, ← EReal.coe_mul]
    congr 2
    simp only [Real.rpow_sub h2]
    have := (hp m').ne'
    field_simp

/-- What the plain softmax computes: the same, in powers of e. -/
theorem at_once {ι : Type*} [Fintype ι] [Nonempty ι] (a : ι → ℝ) (v : ι → EReal) (m : ℝ) :
    ∑ i, v i * Ideal.div (Ideal.exp ((a i : EReal) - m)) (∑ j, Ideal.exp ((a j : EReal) - m))
      = ∑ i, v i * ((Real.exp (a i) / ∑ j, Real.exp (a j) : ℝ) : EReal) := by
  have hS : 0 < ∑ j, Real.exp (a j) := Finset.sum_pos (fun j _ => Real.exp_pos _) Finset.univ_nonempty
  have hden : (∑ j, Ideal.exp ((a j : EReal) - m)) = (((∑ j, Real.exp (a j)) / Real.exp m : ℝ) : EReal) := by
    simp only [exp_sub]
    rw [← coe_sum]
    simp only [Real.exp_sub, Finset.sum_div]
  refine Finset.sum_congr rfl fun i _ => ?_
  rw [hden, div_coe _ (div_pos hS (Real.exp_pos m)), exp_sub, ← EReal.coe_mul, Real.exp_sub]
  congr 2
  have := (Real.exp_pos m).ne'
  field_simp

/-- The square root of the head's width, as both programs take it. -/
theorem sqrt_128 : Ideal.sqrt (Ideal.ofBits .f32 1124073472#32) = ((Real.sqrt 128 : ℝ) : EReal) := by
  have e : Ideal.ofBits .f32 1124073472#32 = ((128 : ℝ) : EReal) := by
    simp [Ideal.ofBits, Ideal.ieee]; norm_cast; norm_num
  rw [e]
  exact if_neg (by norm_num)

/-- Two to the score over `log 2` is e to the score. -/
theorem two_rpow_div_log (x : ℝ) : (2 : ℝ) ^ (x / Real.log 2) = Real.exp x := by
  rw [Real.rpow_def_of_pos two_pos, mul_div_cancel₀ _ (Real.log_pos one_lt_two).ne']

end Cert.Softmax

end
-- ==== Proof.Head.lean ====
/-
  One head of one query tile, as functions of vectors: the scores of a key block against the head's 256
  queries, and the two-block running softmax that turns the scores of both key blocks and the two value
  blocks into the head's 256 output rows. Each is then read at an index.
-/
module

public import proofs.«01_k».proof.Proof.Gen.KernelIdeal.Skeleton
public import Idealize.ShloMosaic.Lib.Pointwise
public import proofs.«01_k».proof.Proof.Softmax

@[expose] public section

noncomputable section

namespace Cert.KernelIdeal.Head

open Idealize.ShloMosaic Idealize.ShloMosaic.TcCoe Idealize.SL.Sem
open Cert.KernelIdeal Cert.KernelIdeal.Gen Cert.Softmax

section Vectors

variable {F : FTy → Type} [FloatOps F]

/-- The scores of 4224 keys against the 256 queries of one head, keys along the rows. -/
def scores (q : Vec F S1x256x128 .bf16) (k : Vec F S1x4224x128 .bf16) : FVec F S1x1x4224x256 .f32 :=
  have qT : FVec F S128x256 .bf16 := truncf .bf16 (transpose S128x256 [1, 0]
    (extf .f32 (shapeCast S256x128 q shapeCasts_S1x256x128_S256x128) bitsLt_bf16_f32) transposes_S256x128_p1_0_S128x256) bitsLt_bf16_f32
  have s : FVec F S4224x256 .f32 := matmul dot_S4224x128_S128x256_S4224x256_1_0_0_1_n_n none
    (shapeCast S4224x128 k shapeCasts_S1x4224x128_S4224x128) qT (constant S4224x256 .f32 0x00000000#32)
  shapeCast S1x1x4224x256 s shapeCasts_S4224x256_S1x1x4224x256

/-- A score block without its unit axes. -/
def flat (s : Vec F S1x1x4224x256 .f32) : FVec F S4224x256 .f32 := shapeCast S4224x256 s shapeCasts_S1x1x4224x256_S4224x256

/-- A score block's maximum over its keys. -/
def colMax (s : Vec F S1x1x4224x256 .f32) : FVec F S256 .f32 :=
  multiReduction .maximumf [0] S256 (flat s) 0xFF800000#32 reduces_S4224x256_S256 (.inl rfl) rfl

/-- The running maximum after a score block. -/
def newMax (m : FVec F S1x256 .f32) (s : Vec F S1x1x4224x256 .f32) : FVec F S1x256 .f32 :=
  maximumf m (shapeCast S1x256 (colMax s) shapeCasts_S256_S1x256)

/-- The block's weights: two to the score less the running maximum. -/
def weights (m : FVec F S1x256 .f32) (s : Vec F S1x1x4224x256 .f32) : FVec F S4224x256 .f32 :=
  exp2 (subf (flat s) (broadcastTo S4224x256 (newMax m s) broadcasts_S1x256_S4224x256))

/-- The factor by which what was accumulated against the old maximum shrinks. -/
def decay (m : FVec F S1x256 .f32) (s : Vec F S1x1x4224x256 .f32) : FVec F S1x256 .f32 := exp2 (subf m (newMax m s))

/-- The running sum of weights after a block. -/
def newSum (m l : FVec F S1x256 .f32) (s : Vec F S1x1x4224x256 .f32) : FVec F S1x256 .f32 :=
  have c : FVec F S256 .f32 := multiReduction .add [0] S256 (weights m s) 0x00000000#32 reduces_S4224x256_S256 (.inl rfl) rfl
  addf (mulf (decay m s) l) (shapeCast S1x256 c shapeCasts_S256_S1x256)

/-- The running weighted sum of values after a block. -/
def newAcc (m : FVec F S1x256 .f32) (a : FVec F S128x256 .f32) (s : Vec F S1x1x4224x256 .f32) (v : Vec F S1x1x1x128x4224 .bf16) :
    FVec F S128x256 .f32 :=
  addf (mulf (broadcastTo S128x256 (decay m s) broadcasts_S1x256_S128x256) a)
    (matmul dot_S128x4224_S4224x256_S128x256_1_0_0_1_n_n none (shapeCast S128x4224 v shapeCasts_S1x1x1x128x4224_S128x4224)
      (truncf .bf16 (weights m s) bitsLt_bf16_f32) (constant S128x256 .f32 0x00000000#32))

/-- The start: no maximum, no sum, nothing accumulated. -/
def m0 : FVec F S1x256 .f32 := broadcast S1x256 (Scalar.ofBits .f32 0xFF800000#32)
@[inherit_doc m0] def l0 : FVec F S1x256 .f32 := broadcast S1x256 (Scalar.ofBits .f32 0x00000000#32)
@[inherit_doc m0] def a0 : FVec F S128x256 .f32 := broadcast S128x256 (Scalar.ofBits .f32 0x00000000#32)

/-- The head's rows: the accumulated values over the sum of the weights, turned back to rows of queries. -/
def rows (l : FVec F S1x256 .f32) (a : FVec F S128x256 .f32) : FVec F S1x256x128 .bf16 :=
  shapeCast S1x256x128 (truncf .bf16 (transpose S256x128 [1, 0] (divf a (broadcastTo S128x256 l broadcasts_S1x256_S128x256))
    transposes_S128x256_p1_0_S256x128) bitsLt_bf16_f32) shapeCasts_S256x128_S1x256x128

/-- The head's rows from both score blocks and both value blocks. -/
def head (s s' : Vec F S1x1x4224x256 .f32) (v v' : Vec F S1x1x1x128x4224 .bf16) : FVec F S1x256x128 .bf16 :=
  rows (newSum (newMax m0 s) (newSum m0 l0 s) s') (newAcc (newMax m0 s) (newAcc m0 a0 s v) s' v')

end Vectors

/-! ## The same at an index, over the extended reals -/

theorem scores_apply (q : Vec Ideal S1x256x128 .bf16) (k : Vec Ideal S1x4224x128 .bf16) (i : Fin 4224) (j : Fin 256) :
    scores q k (ix4 0 0 i j) = ∑ d : Fin 128, k (ix3 0 i d) * q (ix3 0 j d) := by
  pointwise [scores]

theorem ofBits_negInf : Ideal.ofBits .f32 0xFF800000#32 = ⊥ := by simp [Ideal.ofBits, Ideal.ieee]

/-- A maximum reduction of real numbers is real at an index that some source index drops to. -/
theorem isReal_multiReduction {s t : Shape} {axes : List (Fin s.rank)} (src : FVec Ideal s .f32) (h : s.Reduces axes t)
    (hφ : FKind.Formats .f32) (hacc : (0xFF800000#32 : BitVec 32) = FKind.maximumf.neutral .f32 hφ) (j : t.Idx) (i : s.Idx) (hi : h.drop i = j)
    (hs : ∀ i, IsReal (src i)) : IsReal (multiReduction .maximumf axes t src 0xFF800000#32 h hφ hacc j) := by
  rw [multiReduction_maximumf_eq_fold]
  have e : (FloatOps.ofBits .f32 0xFF800000#32 : Ideal .f32) = (⊥ : EReal) := ofBits_negInf
  rw [e]
  exact isReal_fold_max _ _ ⟨i, by simp [hi]⟩ fun i _ => hs i

/-- The running maximum after a block of real scores is real, whether it starts from minus infinity or from a real number. -/
theorem newMax_isReal (m : FVec Ideal S1x256 .f32) (s : Vec Ideal S1x1x4224x256 .f32) (j : Fin 256)
    (hm : m (ix2 0 j) = (⊥ : EReal) ∨ IsReal (m (ix2 0 j))) (hs : ∀ i, IsReal (s i)) : IsReal (newMax m s (ix2 0 j)) := by
  have hc : ∀ x, IsReal (colMax s x) := fun x =>
    isReal_multiReduction _ _ _ _ x (ix2 0 (x 0)) (funext fun b => Fin.ext (by
      obtain rfl : b = 0 := Fin.fin_one_eq_zero b
      exact reduces_S4224x256_S256.drop_apply_val_of_eq (ix2 0 (x 0)) 0 1)) fun i => hs _
  have e : newMax m s (ix2 0 j) = max (m (ix2 0 j)) (colMax s (ix1 j)) := by pointwise [newMax]
  rw [e]
  rcases hm with h | h
  · rw [h, max_bot_left]
    exact hc _
  · exact h.max (hc _)

theorem weights_apply (m : FVec Ideal S1x256 .f32) (s : Vec Ideal S1x1x4224x256 .f32) (i : Fin 4224) (j : Fin 256) :
    weights m s (ix2 i j) = Ideal.exp2 (s (ix4 0 0 i j) - newMax m s (ix2 0 j)) := by
  pointwise [weights, flat]
  rfl

theorem decay_apply (m : FVec Ideal S1x256 .f32) (s : Vec Ideal S1x1x4224x256 .f32) (j : Fin 256) :
    decay m s (ix2 0 j) = Ideal.exp2 (m (ix2 0 j) - newMax m s (ix2 0 j)) := by
  pointwise [decay]
  rfl

theorem newSum_apply (m l : FVec Ideal S1x256 .f32) (s : Vec Ideal S1x1x4224x256 .f32) (j : Fin 256) :
    newSum m l s (ix2 0 j) = decay m s (ix2 0 j) * l (ix2 0 j) + ∑ i : Fin 4224, weights m s (ix2 i j) := by
  pointwise [newSum]

theorem newAcc_apply (m : FVec Ideal S1x256 .f32) (a : FVec Ideal S128x256 .f32) (s : Vec Ideal S1x1x4224x256 .f32)
    (v : Vec Ideal S1x1x1x128x4224 .bf16) (d : Fin 128) (j : Fin 256) :
    newAcc m a s v (ix2 d j)
      = decay m s (ix2 0 j) * a (ix2 d j) + ∑ i : Fin 4224, v (ix5 0 0 0 d i) * weights m s (ix2 i j) := by
  pointwise [newAcc]

theorem rows_apply (l : FVec Ideal S1x256 .f32) (a : FVec Ideal S128x256 .f32) (j : Fin 256) (d : Fin 128) :
    rows l a (ix3 0 j d) = Ideal.div (a (ix2 d j)) (l (ix2 0 j)) := by
  pointwise [rows]

/-- One entry of a head's rows, when all scores are real: every value times its share of the sum of the
    weights, two to the scores. -/
theorem head_apply (s s' : Vec Ideal S1x1x4224x256 .f32) (v v' : Vec Ideal S1x1x1x128x4224 .bf16)
    (a a' : Fin 4224 → ℝ) (j : Fin 256) (d : Fin 128) (hs : ∀ i, IsReal (s i)) (hs' : ∀ i, IsReal (s' i))
    (ha : ∀ i, s (ix4 0 0 i j) = (a i : EReal)) (ha' : ∀ i, s' (ix4 0 0 i j) = (a' i : EReal)) :
    head s s' v v' (ix3 0 j d)
      = (∑ i, v (ix5 0 0 0 d i) * (((2 : ℝ) ^ a i / (∑ k, (2 : ℝ) ^ a k + ∑ k, (2 : ℝ) ^ a' k) : ℝ) : EReal))
        + ∑ i, v' (ix5 0 0 0 d i) * (((2 : ℝ) ^ a' i / (∑ k, (2 : ℝ) ^ a k + ∑ k, (2 : ℝ) ^ a' k) : ℝ) : EReal) := by
  have hm0 : (m0 : FVec Ideal S1x256 .f32) (ix2 0 j) = (⊥ : EReal) := ofBits_negInf
  have hl0 : (l0 : FVec Ideal S1x256 .f32) (ix2 0 j) = (0 : EReal) := Ideal.ofBits_zero_f32
  have ha0 : (a0 : FVec Ideal S128x256 .f32) (ix2 d j) = (0 : EReal) := Ideal.ofBits_zero_f32
  obtain ⟨μ, hμ⟩ := newMax_isReal m0 s j (.inl hm0) hs
  obtain ⟨ν, hν⟩ := newMax_isReal (newMax m0 s) s' j (.inr ⟨μ, hμ⟩) hs'
  rw [head, rows_apply, newSum_apply, newAcc_apply, newSum_apply, newAcc_apply]
  simp only [weights_apply, decay_apply, hm0, hl0, ha0, hμ, hν, ha, ha']
  exact two_blocks a a' _ _ μ ν

end Cert.KernelIdeal.Head

end
-- ==== Proof.Tile.lean ====
/-
  One grid point: what its body leaves in the output's staging buffer, and what it leaves in the first half of
  the score scratch, as functions of the blocks it was given.
-/
module

public import proofs.«01_k».proof.Proof.Gen.KernelIdeal.Frame
public import proofs.«01_k».proof.Proof.Head
public import Idealize.ShloMosaic.Lib.Pipeline.Value
public import Idealize.ShloMosaic.Lib.Pipeline.ReadBack
public import Idealize.ShloMosaic.Lib.Tactic

@[expose] public section

noncomputable section

namespace Cert.KernelIdeal.Tile

open Idealize.ShloMosaic Idealize.ShloMosaic.TcCoe Idealize.SL.Sem
open Cert.KernelIdeal Cert.KernelIdeal.Gen Cert.KernelIdeal.Head

variable {F : FTy → Type} [FloatOps F]

/-! ## The parts of the blocks that the body loads -/

/-- Head `r` of a query block. -/
def part (x : Vec F S1x256x512 .bf16) (r : Fin 4) : Vec F S1x256x128 .bf16 := fun i =>
  x (ix3 0 (i 1) ⟨128 * r.val + (i 2).val, by have := r.isLt; have : (i 2).val < 128 := (i 2).isLt; omega⟩)

/-- Key block `b`. -/
def keys (x : Vec F S1x8448x128 .bf16) (b : Fin 2) : Vec F S1x4224x128 .bf16 := fun i =>
  x (ix3 0 ⟨4224 * b.val + (i 1).val, by have := b.isLt; have : (i 1).val < 4224 := (i 1).isLt; omega⟩ (i 2))

/-- Value block `b`, transposed. -/
def vals (x : Vec F S1x1x2x128x4224 .bf16) (b : Fin 2) : Vec F S1x1x1x128x4224 .bf16 := fun i => x (ix5 0 0 b (i 3) (i 4))

/-- The scores of head `r` in the first half of the scratch. -/
def slot (x : Vec F S2x4x4224x256 .f32) (r : Fin 4) : Vec F S1x1x4224x256 .f32 := fun i => x (ix4 0 r (i 2) (i 3))

theorem ld_part0 (x : Vec F S1x256x512 .bf16) :
    View.ld x (Rect.unit (s := S1x256x512) ![0, 0, 0] ![1, 256, 128] inb_S1x256x512_S1x256x128_0_0_0) = part x 0 := by
  funext i; idx_vars i; pointwise [part]

theorem ld_part1 (x : Vec F S1x256x512 .bf16) :
    View.ld x (Rect.unit (s := S1x256x512) ![0, 0, 128] ![1, 256, 128] inb_S1x256x512_S1x256x128_0_0_128) = part x 1 := by
  funext i; idx_vars i; pointwise [part]

theorem ld_part2 (x : Vec F S1x256x512 .bf16) :
    View.ld x (Rect.unit (s := S1x256x512) ![0, 0, 256] ![1, 256, 128] inb_S1x256x512_S1x256x128_0_0_256) = part x 2 := by
  funext i; idx_vars i; pointwise [part]

theorem ld_part3 (x : Vec F S1x256x512 .bf16) :
    View.ld x (Rect.unit (s := S1x256x512) ![0, 0, 384] ![1, 256, 128] inb_S1x256x512_S1x256x128_0_0_384) = part x 3 := by
  funext i; idx_vars i; pointwise [part]

theorem ld_keys0 (x : Vec F S1x8448x128 .bf16) :
    View.ld x (Rect.unit (s := S1x8448x128) ![0, 0, 0] ![1, 4224, 128] inb_S1x8448x128_S1x4224x128_0_0_0) = keys x 0 := by
  funext i; idx_vars i; pointwise [keys]

theorem ld_keys1 (x : Vec F S1x8448x128 .bf16) :
    View.ld x (Rect.unit (s := S1x8448x128) ![0, 4224, 0] ![1, 4224, 128] inb_S1x8448x128_S1x4224x128_0_4224_0) = keys x 1 := by
  funext i; idx_vars i; pointwise [keys]

theorem ld_vals0 (x : Vec F S1x1x2x128x4224 .bf16) :
    View.ld x (Rect.unit (s := S1x1x2x128x4224) ![0, 0, 0, 0, 0] ![1, 1, 1, 128, 4224] inb_S1x1x2x128x4224_S1x1x1x128x4224_0_0_0_0_0) = vals x 0 := by
  funext i; idx_vars i; pointwise [vals]

theorem ld_vals1 (x : Vec F S1x1x2x128x4224 .bf16) :
    View.ld x (Rect.unit (s := S1x1x2x128x4224) ![0, 0, 1, 0, 0] ![1, 1, 1, 128, 4224] inb_S1x1x2x128x4224_S1x1x1x128x4224_0_0_1_0_0) = vals x 1 := by
  funext i; idx_vars i; pointwise [vals]

theorem ld_slot0 (x : Vec F S2x4x4224x256 .f32) :
    View.ld x (Rect.unit (s := S2x4x4224x256) ![0, 0, 0, 0] ![1, 1, 4224, 256] inb_S2x4x4224x256_S1x1x4224x256_0_0_0_0) = slot x 0 := by
  funext i; idx_vars i; pointwise [slot]

theorem ld_slot1 (x : Vec F S2x4x4224x256 .f32) :
    View.ld x (Rect.unit (s := S2x4x4224x256) ![0, 1, 0, 0] ![1, 1, 4224, 256] inb_S2x4x4224x256_S1x1x4224x256_0_1_0_0) = slot x 1 := by
  funext i; idx_vars i; pointwise [slot]

theorem ld_slot2 (x : Vec F S2x4x4224x256 .f32) :
    View.ld x (Rect.unit (s := S2x4x4224x256) ![0, 2, 0, 0] ![1, 1, 4224, 256] inb_S2x4x4224x256_S1x1x4224x256_0_2_0_0) = slot x 2 := by
  funext i; idx_vars i; pointwise [slot]

theorem ld_slot3 (x : Vec F S2x4x4224x256 .f32) :
    View.ld x (Rect.unit (s := S2x4x4224x256) ![0, 3, 0, 0] ![1, 1, 4224, 256] inb_S2x4x4224x256_S1x1x4224x256_0_3_0_0) = slot x 3 := by
  funext i; idx_vars i; pointwise [slot]

/-! ## Loads of the score scratch after the body's stores

  The scratch has two halves of four heads. The body stores the four heads of the second half first, then those of the
  first half again, and reads the second half after both. -/

/-- Head `0` of half `0` of the scratch. -/
abbrev box00 : Rect S2x4x4224x256 := Rect.unit (s := S2x4x4224x256) ![0, 0, 0, 0] ![1, 1, 4224, 256] inb_S2x4x4224x256_S1x1x4224x256_0_0_0_0

/-- Head `1` of half `0` of the scratch. -/
abbrev box01 : Rect S2x4x4224x256 := Rect.unit (s := S2x4x4224x256) ![0, 1, 0, 0] ![1, 1, 4224, 256] inb_S2x4x4224x256_S1x1x4224x256_0_1_0_0

/-- Head `2` of half `0` of the scratch. -/
abbrev box02 : Rect S2x4x4224x256 := Rect.unit (s := S2x4x4224x256) ![0, 2, 0, 0] ![1, 1, 4224, 256] inb_S2x4x4224x256_S1x1x4224x256_0_2_0_0

/-- Head `3` of half `0` of the scratch. -/
abbrev box03 : Rect S2x4x4224x256 := Rect.unit (s := S2x4x4224x256) ![0, 3, 0, 0] ![1, 1, 4224, 256] inb_S2x4x4224x256_S1x1x4224x256_0_3_0_0

/-- Head `0` of half `1` of the scratch. -/
abbrev box10 : Rect S2x4x4224x256 := Rect.unit (s := S2x4x4224x256) ![1, 0, 0, 0] ![1, 1, 4224, 256] inb_S2x4x4224x256_S1x1x4224x256_1_0_0_0

/-- Head `1` of half `1` of the scratch. -/
abbrev box11 : Rect S2x4x4224x256 := Rect.unit (s := S2x4x4224x256) ![1, 1, 0, 0] ![1, 1, 4224, 256] inb_S2x4x4224x256_S1x1x4224x256_1_1_0_0

/-- Head `2` of half `1` of the scratch. -/
abbrev box12 : Rect S2x4x4224x256 := Rect.unit (s := S2x4x4224x256) ![1, 2, 0, 0] ![1, 1, 4224, 256] inb_S2x4x4224x256_S1x1x4224x256_1_2_0_0

/-- Head `3` of half `1` of the scratch. -/
abbrev box13 : Rect S2x4x4224x256 := Rect.unit (s := S2x4x4224x256) ![1, 3, 0, 0] ![1, 1, 4224, 256] inb_S2x4x4224x256_S1x1x4224x256_1_3_0_0

variable (v : View sig .tc .vmem S2x4x4224x256 .f32) (p0 p1 p2 p3 w0 w1 w2 w3 : FVec F S1x1x4224x256 .f32)
  (L : List (View.Piece (Elt F) S2x4x4224x256 .f32))

theorem load10 : v.readCov ((⟨Rect.unit (s := S2x4x4224x256) ![0, 3, 0, 0] ![1, 1, 4224, 256] inb_S2x4x4224x256_S1x1x4224x256_0_3_0_0, p3⟩ : View.Piece (Elt F) S2x4x4224x256 .f32) :: (⟨Rect.unit (s := S2x4x4224x256) ![0, 2, 0, 0] ![1, 1, 4224, 256] inb_S2x4x4224x256_S1x1x4224x256_0_2_0_0, p2⟩ : View.Piece (Elt F) S2x4x4224x256 .f32) :: (⟨Rect.unit (s := S2x4x4224x256) ![0, 1, 0, 0] ![1, 1, 4224, 256] inb_S2x4x4224x256_S1x1x4224x256_0_1_0_0, p1⟩ : View.Piece (Elt F) S2x4x4224x256 .f32) :: (⟨Rect.unit (s := S2x4x4224x256) ![0, 0, 0, 0] ![1, 1, 4224, 256] inb_S2x4x4224x256_S1x1x4224x256_0_0_0_0, p0⟩ : View.Piece (Elt F) S2x4x4224x256 .f32) :: (⟨Rect.unit (s := S2x4x4224x256) ![1, 3, 0, 0] ![1, 1, 4224, 256] inb_S2x4x4224x256_S1x1x4224x256_1_3_0_0, w3⟩ : View.Piece (Elt F) S2x4x4224x256 .f32) :: (⟨Rect.unit (s := S2x4x4224x256) ![1, 2, 0, 0] ![1, 1, 4224, 256] inb_S2x4x4224x256_S1x1x4224x256_1_2_0_0, w2⟩ : View.Piece (Elt F) S2x4x4224x256 .f32) :: (⟨Rect.unit (s := S2x4x4224x256) ![1, 1, 0, 0] ![1, 1, 4224, 256] inb_S2x4x4224x256_S1x1x4224x256_1_1_0_0, w1⟩ : View.Piece (Elt F) S2x4x4224x256 .f32) :: (⟨Rect.unit (s := S2x4x4224x256) ![1, 0, 0, 0] ![1, 1, 4224, 256] inb_S2x4x4224x256_S1x1x4224x256_1_0_0_0, w0⟩ : View.Piece (Elt F) S2x4x4224x256 .f32) :: L) (Rect.unit (s := S2x4x4224x256) ![1, 0, 0, 0] ![1, 1, 4224, 256] inb_S2x4x4224x256_S1x1x4224x256_1_0_0_0).toLoadRect = w0 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem load11 : v.readCov ((⟨Rect.unit (s := S2x4x4224x256) ![0, 3, 0, 0] ![1, 1, 4224, 256] inb_S2x4x4224x256_S1x1x4224x256_0_3_0_0, p3⟩ : View.Piece (Elt F) S2x4x4224x256 .f32) :: (⟨Rect.unit (s := S2x4x4224x256) ![0, 2, 0, 0] ![1, 1, 4224, 256] inb_S2x4x4224x256_S1x1x4224x256_0_2_0_0, p2⟩ : View.Piece (Elt F) S2x4x4224x256 .f32) :: (⟨Rect.unit (s := S2x4x4224x256) ![0, 1, 0, 0] ![1, 1, 4224, 256] inb_S2x4x4224x256_S1x1x4224x256_0_1_0_0, p1⟩ : View.Piece (Elt F) S2x4x4224x256 .f32) :: (⟨Rect.unit (s := S2x4x4224x256) ![0, 0, 0, 0] ![1, 1, 4224, 256] inb_S2x4x4224x256_S1x1x4224x256_0_0_0_0, p0⟩ : View.Piece (Elt F) S2x4x4224x256 .f32) :: (⟨Rect.unit (s := S2x4x4224x256) ![1, 3, 0, 0] ![1, 1, 4224, 256] inb_S2x4x4224x256_S1x1x4224x256_1_3_0_0, w3⟩ : View.Piece (Elt F) S2x4x4224x256 .f32) :: (⟨Rect.unit (s := S2x4x4224x256) ![1, 2, 0, 0] ![1, 1, 4224, 256] inb_S2x4x4224x256_S1x1x4224x256_1_2_0_0, w2⟩ : View.Piece (Elt F) S2x4x4224x256 .f32) :: (⟨Rect.unit (s := S2x4x4224x256) ![1, 1, 0, 0] ![1, 1, 4224, 256] inb_S2x4x4224x256_S1x1x4224x256_1_1_0_0, w1⟩ : View.Piece (Elt F) S2x4x4224x256 .f32) :: (⟨Rect.unit (s := S2x4x4224x256) ![1, 0, 0, 0] ![1, 1, 4224, 256] inb_S2x4x4224x256_S1x1x4224x256_1_0_0_0, w0⟩ : View.Piece (Elt F) S2x4x4224x256 .f32) :: L) (Rect.unit (s := S2x4x4224x256) ![1, 1, 0, 0] ![1, 1, 4224, 256] inb_S2x4x4224x256_S1x1x4224x256_1_1_0_0).toLoadRect = w1 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem load12 : v.readCov ((⟨Rect.unit (s := S2x4x4224x256) ![0, 3, 0, 0] ![1, 1, 4224, 256] inb_S2x4x4224x256_S1x1x4224x256_0_3_0_0, p3⟩ : View.Piece (Elt F) S2x4x4224x256 .f32) :: (⟨Rect.unit (s := S2x4x4224x256) ![0, 2, 0, 0] ![1, 1, 4224, 256] inb_S2x4x4224x256_S1x1x4224x256_0_2_0_0, p2⟩ : View.Piece (Elt F) S2x4x4224x256 .f32) :: (⟨Rect.unit (s := S2x4x4224x256) ![0, 1, 0, 0] ![1, 1, 4224, 256] inb_S2x4x4224x256_S1x1x4224x256_0_1_0_0, p1⟩ : View.Piece (Elt F) S2x4x4224x256 .f32) :: (⟨Rect.unit (s := S2x4x4224x256) ![0, 0, 0, 0] ![1, 1, 4224, 256] inb_S2x4x4224x256_S1x1x4224x256_0_0_0_0, p0⟩ : View.Piece (Elt F) S2x4x4224x256 .f32) :: (⟨Rect.unit (s := S2x4x4224x256) ![1, 3, 0, 0] ![1, 1, 4224, 256] inb_S2x4x4224x256_S1x1x4224x256_1_3_0_0, w3⟩ : View.Piece (Elt F) S2x4x4224x256 .f32) :: (⟨Rect.unit (s := S2x4x4224x256) ![1, 2, 0, 0] ![1, 1, 4224, 256] inb_S2x4x4224x256_S1x1x4224x256_1_2_0_0, w2⟩ : View.Piece (Elt F) S2x4x4224x256 .f32) :: (⟨Rect.unit (s := S2x4x4224x256) ![1, 1, 0, 0] ![1, 1, 4224, 256] inb_S2x4x4224x256_S1x1x4224x256_1_1_0_0, w1⟩ : View.Piece (Elt F) S2x4x4224x256 .f32) :: (⟨Rect.unit (s := S2x4x4224x256) ![1, 0, 0, 0] ![1, 1, 4224, 256] inb_S2x4x4224x256_S1x1x4224x256_1_0_0_0, w0⟩ : View.Piece (Elt F) S2x4x4224x256 .f32) :: L) (Rect.unit (s := S2x4x4224x256) ![1, 2, 0, 0] ![1, 1, 4224, 256] inb_S2x4x4224x256_S1x1x4224x256_1_2_0_0).toLoadRect = w2 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem load13 : v.readCov ((⟨Rect.unit (s := S2x4x4224x256) ![0, 3, 0, 0] ![1, 1, 4224, 256] inb_S2x4x4224x256_S1x1x4224x256_0_3_0_0, p3⟩ : View.Piece (Elt F) S2x4x4224x256 .f32) :: (⟨Rect.unit (s := S2x4x4224x256) ![0, 2, 0, 0] ![1, 1, 4224, 256] inb_S2x4x4224x256_S1x1x4224x256_0_2_0_0, p2⟩ : View.Piece (Elt F) S2x4x4224x256 .f32) :: (⟨Rect.unit (s := S2x4x4224x256) ![0, 1, 0, 0] ![1, 1, 4224, 256] inb_S2x4x4224x256_S1x1x4224x256_0_1_0_0, p1⟩ : View.Piece (Elt F) S2x4x4224x256 .f32) :: (⟨Rect.unit (s := S2x4x4224x256) ![0, 0, 0, 0] ![1, 1, 4224, 256] inb_S2x4x4224x256_S1x1x4224x256_0_0_0_0, p0⟩ : View.Piece (Elt F) S2x4x4224x256 .f32) :: (⟨Rect.unit (s := S2x4x4224x256) ![1, 3, 0, 0] ![1, 1, 4224, 256] inb_S2x4x4224x256_S1x1x4224x256_1_3_0_0, w3⟩ : View.Piece (Elt F) S2x4x4224x256 .f32) :: (⟨Rect.unit (s := S2x4x4224x256) ![1, 2, 0, 0] ![1, 1, 4224, 256] inb_S2x4x4224x256_S1x1x4224x256_1_2_0_0, w2⟩ : View.Piece (Elt F) S2x4x4224x256 .f32) :: (⟨Rect.unit (s := S2x4x4224x256) ![1, 1, 0, 0] ![1, 1, 4224, 256] inb_S2x4x4224x256_S1x1x4224x256_1_1_0_0, w1⟩ : View.Piece (Elt F) S2x4x4224x256 .f32) :: (⟨Rect.unit (s := S2x4x4224x256) ![1, 0, 0, 0] ![1, 1, 4224, 256] inb_S2x4x4224x256_S1x1x4224x256_1_0_0_0, w0⟩ : View.Piece (Elt F) S2x4x4224x256 .f32) :: L) (Rect.unit (s := S2x4x4224x256) ![1, 3, 0, 0] ![1, 1, 4224, 256] inb_S2x4x4224x256_S1x1x4224x256_1_3_0_0).toLoadRect = w3 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem load00 : v.readCov ((⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 0, 0, 0] ![1, 1, 4224, 256] inb_S2x4x4224x256_S1x1x4224x256_0_0_0_0).toLoadRect = w0 := by
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

theorem load01 : v.readCov ((⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 1, 0, 0] ![1, 1, 4224, 256] inb_S2x4x4224x256_S1x1x4224x256_0_1_0_0).toLoadRect = w1 := by
  refine (View.readCov_skip _ _ _ _ _ (by decide)).trans ?_
  refine (View.readCov_skip _ _ _ _ _ (by decide)).trans ?_
  exact View.readCov_cons_toLoadRect _ _ _ _

theorem load02 : v.readCov ((⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 2, 0, 0] ![1, 1, 4224, 256] inb_S2x4x4224x256_S1x1x4224x256_0_2_0_0).toLoadRect = w2 := by
  refine (View.readCov_skip _ _ _ _ _ (by decide)).trans ?_
  exact View.readCov_cons_toLoadRect _ _ _ _

theorem load03 : v.readCov ((⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 3, 0, 0] ![1, 1, 4224, 256] inb_S2x4x4224x256_S1x1x4224x256_0_3_0_0).toLoadRect = w3 := by
  exact View.readCov_cons_toLoadRect _ _ _ _

theorem first0 : v.readCov ((⟨Rect.unit (s := S2x4x4224x256) ![1, 3, 0, 0] ![1, 1, 4224, 256] inb_S2x4x4224x256_S1x1x4224x256_1_3_0_0, p3⟩ : View.Piece (Elt F) S2x4x4224x256 .f32) :: (⟨Rect.unit (s := S2x4x4224x256) ![1, 2, 0, 0] ![1, 1, 4224, 256] inb_S2x4x4224x256_S1x1x4224x256_1_2_0_0, p2⟩ : View.Piece (Elt F) S2x4x4224x256 .f32) :: (⟨Rect.unit (s := S2x4x4224x256) ![1, 1, 0, 0] ![1, 1, 4224, 256] inb_S2x4x4224x256_S1x1x4224x256_1_1_0_0, p1⟩ : View.Piece (Elt F) S2x4x4224x256 .f32) :: (⟨Rect.unit (s := S2x4x4224x256) ![1, 0, 0, 0] ![1, 1, 4224, 256] inb_S2x4x4224x256_S1x1x4224x256_1_0_0_0, p0⟩ : View.Piece (Elt F) S2x4x4224x256 .f32) :: (⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 0, 0, 0] ![1, 1, 4224, 256] inb_S2x4x4224x256_S1x1x4224x256_0_0_0_0).toLoadRect = w0 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact load00 v w0 w1 w2 w3 L

theorem first1 : v.readCov ((⟨Rect.unit (s := S2x4x4224x256) ![1, 3, 0, 0] ![1, 1, 4224, 256] inb_S2x4x4224x256_S1x1x4224x256_1_3_0_0, p3⟩ : View.Piece (Elt F) S2x4x4224x256 .f32) :: (⟨Rect.unit (s := S2x4x4224x256) ![1, 2, 0, 0] ![1, 1, 4224, 256] inb_S2x4x4224x256_S1x1x4224x256_1_2_0_0, p2⟩ : View.Piece (Elt F) S2x4x4224x256 .f32) :: (⟨Rect.unit (s := S2x4x4224x256) ![1, 1, 0, 0] ![1, 1, 4224, 256] inb_S2x4x4224x256_S1x1x4224x256_1_1_0_0, p1⟩ : View.Piece (Elt F) S2x4x4224x256 .f32) :: (⟨Rect.unit (s := S2x4x4224x256) ![1, 0, 0, 0] ![1, 1, 4224, 256] inb_S2x4x4224x256_S1x1x4224x256_1_0_0_0, p0⟩ : View.Piece (Elt F) S2x4x4224x256 .f32) :: (⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 1, 0, 0] ![1, 1, 4224, 256] inb_S2x4x4224x256_S1x1x4224x256_0_1_0_0).toLoadRect = w1 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact load01 v w0 w1 w2 w3 L

theorem first2 : v.readCov ((⟨Rect.unit (s := S2x4x4224x256) ![1, 3, 0, 0] ![1, 1, 4224, 256] inb_S2x4x4224x256_S1x1x4224x256_1_3_0_0, p3⟩ : View.Piece (Elt F) S2x4x4224x256 .f32) :: (⟨Rect.unit (s := S2x4x4224x256) ![1, 2, 0, 0] ![1, 1, 4224, 256] inb_S2x4x4224x256_S1x1x4224x256_1_2_0_0, p2⟩ : View.Piece (Elt F) S2x4x4224x256 .f32) :: (⟨Rect.unit (s := S2x4x4224x256) ![1, 1, 0, 0] ![1, 1, 4224, 256] inb_S2x4x4224x256_S1x1x4224x256_1_1_0_0, p1⟩ : View.Piece (Elt F) S2x4x4224x256 .f32) :: (⟨Rect.unit (s := S2x4x4224x256) ![1, 0, 0, 0] ![1, 1, 4224, 256] inb_S2x4x4224x256_S1x1x4224x256_1_0_0_0, p0⟩ : View.Piece (Elt F) S2x4x4224x256 .f32) :: (⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 2, 0, 0] ![1, 1, 4224, 256] inb_S2x4x4224x256_S1x1x4224x256_0_2_0_0).toLoadRect = w2 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact load02 v w0 w1 w2 w3 L

theorem first3 : v.readCov ((⟨Rect.unit (s := S2x4x4224x256) ![1, 3, 0, 0] ![1, 1, 4224, 256] inb_S2x4x4224x256_S1x1x4224x256_1_3_0_0, p3⟩ : View.Piece (Elt F) S2x4x4224x256 .f32) :: (⟨Rect.unit (s := S2x4x4224x256) ![1, 2, 0, 0] ![1, 1, 4224, 256] inb_S2x4x4224x256_S1x1x4224x256_1_2_0_0, p2⟩ : View.Piece (Elt F) S2x4x4224x256 .f32) :: (⟨Rect.unit (s := S2x4x4224x256) ![1, 1, 0, 0] ![1, 1, 4224, 256] inb_S2x4x4224x256_S1x1x4224x256_1_1_0_0, p1⟩ : View.Piece (Elt F) S2x4x4224x256 .f32) :: (⟨Rect.unit (s := S2x4x4224x256) ![1, 0, 0, 0] ![1, 1, 4224, 256] inb_S2x4x4224x256_S1x1x4224x256_1_0_0_0, p0⟩ : View.Piece (Elt F) S2x4x4224x256 .f32) :: (⟨Rect.unit (s := S2x4x4224x256) ![0, 3, 0, 0] ![1, 1, 4224, 256] inb_S2x4x4224x256_S1x1x4224x256_0_3_0_0, w3⟩ : View.Piece (Elt F) S2x4x4224x256 .f32) :: (⟨Rect.unit (s := S2x4x4224x256) ![0, 2, 0, 0] ![1, 1, 4224, 256] inb_S2x4x4224x256_S1x1x4224x256_0_2_0_0, w2⟩ : View.Piece (Elt F) S2x4x4224x256 .f32) :: (⟨Rect.unit (s := S2x4x4224x256) ![0, 1, 0, 0] ![1, 1, 4224, 256] inb_S2x4x4224x256_S1x1x4224x256_0_1_0_0, w1⟩ : View.Piece (Elt F) S2x4x4224x256 .f32) :: (⟨Rect.unit (s := S2x4x4224x256) ![0, 0, 0, 0] ![1, 1, 4224, 256] inb_S2x4x4224x256_S1x1x4224x256_0_0_0_0, w0⟩ : View.Piece (Elt F) S2x4x4224x256 .f32) :: L) (Rect.unit (s := S2x4x4224x256) ![0, 3, 0, 0] ![1, 1, 4224, 256] inb_S2x4x4224x256_S1x1x4224x256_0_3_0_0).toLoadRect = w3 := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact load03 v w0 w1 w2 w3 L

/-! ## The pieces the body stores -/

/-- The head's rows from the scores of its queries against both key blocks. -/
abbrev headOf (s : Vec F S1x1x4224x256 .f32) (q : Vec F S1x256x128 .bf16) (x2 : Vec F S1x8448x128 .bf16) (x3 : Vec F S1x1x2x128x4224 .bf16) :
    FVec F S1x256x128 .bf16 :=
  head s (scores q (keys x2 1)) (vals x3 0) (vals x3 1)

section Runs

variable (c : Dev nD) (i : grid0.Coords) (arg3 : Memref sig .tc .vmem S1x256x512 .bf16) (harg3 : arg3.IsWhole)
  (arg4 : Memref sig .tc .vmem S1x256x512 .bf16) (harg4 : arg4.IsWhole) (arg5 : Memref sig .tc .vmem S1x8448x128 .bf16) (harg5 : arg5.IsWhole)
  (arg6 : Memref sig .tc .vmem S1x1x2x128x4224 .bf16) (harg6 : arg6.IsWhole) (arg7 : Memref sig .tc .vmem S1x256x512 .bf16) (harg7 : arg7.IsWhole)
  (arg8 : Memref sig .tc .vmem S2x4x4224x256 .f32) (harg8 : arg8.IsWhole)
  (x0 : Vec F S1x256x512 .bf16) (x1 : Vec F S1x256x512 .bf16) (x2 : Vec F S1x8448x128 .bf16) (x3 : Vec F S1x1x2x128x4224 .bf16)
  (xs0 : Vec F S2x4x4224x256 .f32)

/-- The four stores to the output block, one per head, last first. -/
def outPieces (s : Fin 4 → Vec F S1x1x4224x256 .f32) : List (View.Piece (Elt F) S1x256x512 .bf16) :=
  [⟨Rect.unit (s := S1x256x512) ![0, 0, 384] ![1, 256, 128] inb_S1x256x512_S1x256x128_0_0_384, headOf (s 3) (part x0 3) x2 x3⟩,
   ⟨Rect.unit (s := S1x256x512) ![0, 0, 256] ![1, 256, 128] inb_S1x256x512_S1x256x128_0_0_256, headOf (s 2) (part x0 2) x2 x3⟩,
   ⟨Rect.unit (s := S1x256x512) ![0, 0, 128] ![1, 256, 128] inb_S1x256x512_S1x256x128_0_0_128, headOf (s 1) (part x0 1) x2 x3⟩,
   ⟨Rect.unit (s := S1x256x512) ![0, 0, 0] ![1, 256, 128] inb_S1x256x512_S1x256x128_0_0_0, headOf (s 0) (part x0 0) x2 x3⟩]

/-- The stores to the score scratch that the body makes at every point: the second half for this point's queries, then the first half for
    the next point's, one store per head, last first. -/
def scrPieces (L : List (View.Piece (Elt F) S2x4x4224x256 .f32)) : List (View.Piece (Elt F) S2x4x4224x256 .f32) :=
  (⟨Rect.unit (s := S2x4x4224x256) ![0, 3, 0, 0] ![1, 1, 4224, 256] inb_S2x4x4224x256_S1x1x4224x256_0_3_0_0, scores (part x1 3) (keys x2 0)⟩ : View.Piece (Elt F) S2x4x4224x256 .f32) ::
  (⟨Rect.unit (s := S2x4x4224x256) ![0, 2, 0, 0] ![1, 1, 4224, 256] inb_S2x4x4224x256_S1x1x4224x256_0_2_0_0, scores (part x1 2) (keys x2 0)⟩ : View.Piece (Elt F) S2x4x4224x256 .f32) ::
  (⟨Rect.unit (s := S2x4x4224x256) ![0, 1, 0, 0] ![1, 1, 4224, 256] inb_S2x4x4224x256_S1x1x4224x256_0_1_0_0, scores (part x1 1) (keys x2 0)⟩ : View.Piece (Elt F) S2x4x4224x256 .f32) ::
  (⟨Rect.unit (s := S2x4x4224x256) ![0, 0, 0, 0] ![1, 1, 4224, 256] inb_S2x4x4224x256_S1x1x4224x256_0_0_0_0, scores (part x1 0) (keys x2 0)⟩ : View.Piece (Elt F) S2x4x4224x256 .f32) ::
  (⟨Rect.unit (s := S2x4x4224x256) ![1, 3, 0, 0] ![1, 1, 4224, 256] inb_S2x4x4224x256_S1x1x4224x256_1_3_0_0, scores (part x0 3) (keys x2 1)⟩ : View.Piece (Elt F) S2x4x4224x256 .f32) ::
  (⟨Rect.unit (s := S2x4x4224x256) ![1, 2, 0, 0] ![1, 1, 4224, 256] inb_S2x4x4224x256_S1x1x4224x256_1_2_0_0, scores (part x0 2) (keys x2 1)⟩ : View.Piece (Elt F) S2x4x4224x256 .f32) ::
  (⟨Rect.unit (s := S2x4x4224x256) ![1, 1, 0, 0] ![1, 1, 4224, 256] inb_S2x4x4224x256_S1x1x4224x256_1_1_0_0, scores (part x0 1) (keys x2 1)⟩ : View.Piece (Elt F) S2x4x4224x256 .f32) ::
  (⟨Rect.unit (s := S2x4x4224x256) ![1, 0, 0, 0] ![1, 1, 4224, 256] inb_S2x4x4224x256_S1x1x4224x256_1_0_0_0, scores (part x0 0) (keys x2 1)⟩ : View.Piece (Elt F) S2x4x4224x256 .f32) :: L

/-- The stores to the first half that open a row of points. -/
def openPieces : List (View.Piece (Elt F) S2x4x4224x256 .f32) :=
  (⟨Rect.unit (s := S2x4x4224x256) ![0, 3, 0, 0] ![1, 1, 4224, 256] inb_S2x4x4224x256_S1x1x4224x256_0_3_0_0, scores (part x0 3) (keys x2 0)⟩ : View.Piece (Elt F) S2x4x4224x256 .f32) ::
  (⟨Rect.unit (s := S2x4x4224x256) ![0, 2, 0, 0] ![1, 1, 4224, 256] inb_S2x4x4224x256_S1x1x4224x256_0_2_0_0, scores (part x0 2) (keys x2 0)⟩ : View.Piece (Elt F) S2x4x4224x256 .f32) ::
  (⟨Rect.unit (s := S2x4x4224x256) ![0, 1, 0, 0] ![1, 1, 4224, 256] inb_S2x4x4224x256_S1x1x4224x256_0_1_0_0, scores (part x0 1) (keys x2 0)⟩ : View.Piece (Elt F) S2x4x4224x256 .f32) ::
  (⟨Rect.unit (s := S2x4x4224x256) ![0, 0, 0, 0] ![1, 1, 4224, 256] inb_S2x4x4224x256_S1x1x4224x256_0_0_0_0, scores (part x0 0) (keys x2 0)⟩ : View.Piece (Elt F) S2x4x4224x256 .f32) :: []

theorem outPieces_A (hc0 : cond0_0 i) :
    (kernelRun0_A c i arg3 harg3 arg4 harg4 arg5 harg5 arg6 harg6 arg7 harg7 arg8 harg8 hc0 x0 x1 x2 x3).1
      = outPieces x0 x2 x3 (fun r => scores (part x0 r) (keys x2 0)) := by
  unfold kernelRun0_A
  dsimp only
  sl_unfold_words
  simp only [View.readAt_eq_ld, harg3.read_unread, harg4.read_unread, harg5.read_unread, harg6.read_unread, harg8.read_unread]
  simp only [load10, load11, load12, load13, first0, first1, first2, first3, ld_part0, ld_part1, ld_part2, ld_part3, ld_keys0, ld_keys1, ld_vals0, ld_vals1, ld_slot0, ld_slot1, ld_slot2, ld_slot3]
  rfl

theorem scrPieces_A (hc0 : cond0_0 i) :
    (kernelRun0_A c i arg3 harg3 arg4 harg4 arg5 harg5 arg6 harg6 arg7 harg7 arg8 harg8 hc0 x0 x1 x2 x3).2.1
      = scrPieces x0 x1 x2 (openPieces x0 x2) := by
  unfold kernelRun0_A
  dsimp only
  sl_unfold_words
  simp only [View.readAt_eq_ld, harg3.read_unread, harg4.read_unread, harg5.read_unread, harg6.read_unread, harg8.read_unread]
  simp only [ld_part0, ld_part1, ld_part2, ld_part3, ld_keys0, ld_keys1, ld_vals0, ld_vals1, ld_slot0, ld_slot1, ld_slot2, ld_slot3]
  rfl

theorem outPieces_B (hc0 : ¬cond0_0 i) :
    (kernelRun0_B c i arg3 harg3 arg4 harg4 arg5 harg5 arg6 harg6 arg7 harg7 arg8 harg8 hc0 x0 x1 x2 x3 xs0).1
      = outPieces x0 x2 x3 (slot xs0) := by
  unfold kernelRun0_B
  dsimp only
  sl_unfold_words
  simp only [View.readAt_eq_ld, harg3.read_unread, harg4.read_unread, harg5.read_unread, harg6.read_unread, harg8.read_unread]
  simp only [load10, load11, load12, load13, ld_part0, ld_part1, ld_part2, ld_part3, ld_keys0, ld_keys1, ld_vals0, ld_vals1, ld_slot0, ld_slot1, ld_slot2, ld_slot3]
  rfl

theorem scrPieces_B (hc0 : ¬cond0_0 i) :
    (kernelRun0_B c i arg3 harg3 arg4 harg4 arg5 harg5 arg6 harg6 arg7 harg7 arg8 harg8 hc0 x0 x1 x2 x3 xs0).2.1
      = scrPieces x0 x1 x2 [] := by
  unfold kernelRun0_B
  dsimp only
  sl_unfold_words
  simp only [View.readAt_eq_ld, harg3.read_unread, harg4.read_unread, harg5.read_unread, harg6.read_unread, harg8.read_unread]
  simp only [ld_part0, ld_part1, ld_part2, ld_part3, ld_keys0, ld_keys1, ld_vals0, ld_vals1, ld_slot0, ld_slot1, ld_slot2, ld_slot3]
  rfl

/-- The block of outputs: at row `j` and column `128·r + d`, head `r`'s row. -/
def outTile (s : Fin 4 → Vec F S1x1x4224x256 .f32) : Vec F S1x256x512 .bf16 := fun y =>
  headOf (s ⟨(y 2).val / 128, by have : (y 2).val < 512 := (y 2).isLt; omega⟩)
    (part x0 ⟨(y 2).val / 128, by have : (y 2).val < 512 := (y 2).isLt; omega⟩) x2 x3
    (ix3 0 (y 1) ⟨(y 2).val % 128, Nat.mod_lt _ (by norm_num)⟩)

theorem outTile_apply (s : Fin 4 → Vec F S1x1x4224x256 .f32) (r : Fin 4) (j : Fin 256) (d : Fin 128) (y : S1x256x512.Idx)
    (h1 : (y 1).val = j.val) (h2 : (y 2).val = 128 * r.val + d.val) :
    outTile x0 x2 x3 s y = headOf (s r) (part x0 r) x2 x3 (ix3 0 j d) := by
  have hd := d.isLt
  have e1 : y 1 = j := Fin.ext h1
  have e2 : (⟨(y 2).val / 128, by have : (y 2).val < 512 := (y 2).isLt; omega⟩ : Fin 4) = r := Fin.ext (by show (y 2).val / 128 = _; omega)
  have e3 : (⟨(y 2).val % 128, Nat.mod_lt _ (by norm_num)⟩ : Fin 128) = d := Fin.ext (by show (y 2).val % 128 = _; omega)
  unfold outTile
  rw [e1, e2, e3]

theorem canon_outPieces (s : Fin 4 → Vec F S1x1x4224x256 .f32) (h : ∀ y, ∃ p ∈ outPieces x0 x2 x3 s, y ∈ p.1.set) :
    View.canon (outPieces x0 x2 x3 s) = outTile x0 x2 x3 s := by
  funext y
  refine View.canon_apply_of_pieces _ _ ?_ y (h y)
  have key : ∀ (r : Fin 4) (off : Fin 3 → ℕ) (inb) (_ : off 1 = 0) (_ : off 2 = 128 * r.val)
      (x : (Rect.unit (s := S1x256x512) off ![1, 256, 128] inb).shape.Idx),
      headOf (s r) (part x0 r) x2 x3 x = outTile x0 x2 x3 s ((Rect.unit (s := S1x256x512) off ![1, 256, 128] inb).emb x) := by
    intro r off inb h1 h2 x
    refine (Eq.trans (outTile_apply x0 x2 x3 s r (x 1) (x 2) _ ?_ ?_) ?_).symm
    · rw [Rect.emb_apply]; simp [h1]
    · rw [Rect.emb_apply]; simp [h2]
    · congr 1
      funext a
      match a with
      | 0 => exact (Fin.fin_one_eq_zero _).symm
      | 1 => rfl
      | 2 => rfl
  intro p hp
  simp only [outPieces, List.mem_cons, List.not_mem_nil, or_false] at hp
  rcases hp with rfl | rfl | rfl | rfl
  · exact key 3 _ inb_S1x256x512_S1x256x128_0_0_384 rfl rfl
  · exact key 2 _ inb_S1x256x512_S1x256x128_0_0_256 rfl rfl
  · exact key 1 _ inb_S1x256x512_S1x256x128_0_0_128 rfl rfl
  · exact key 0 _ inb_S1x256x512_S1x256x128_0_0_0 rfl rfl

/-- After the stores the first half of the scratch holds the next point's scores against the first key block. -/
theorem slot_scrPieces (v : View sig .tc .vmem S2x4x4224x256 .f32) (L : List (View.Piece (Elt F) S2x4x4224x256 .f32)) (r : Fin 4) :
    slot (v.read (Elt F) (v.writes (Elt F) v.junk (scrPieces x0 x1 x2 L))) r = scores (part x1 r) (keys x2 0) := by
  match r with
  | 0 => exact (ld_slot0 _).symm.trans ((View.readAt_eq_ld _ _ _).symm.trans (load00 v _ _ _ _ _))
  | 1 => exact (ld_slot1 _).symm.trans ((View.readAt_eq_ld _ _ _).symm.trans (load01 v _ _ _ _ _))
  | 2 => exact (ld_slot2 _).symm.trans ((View.readAt_eq_ld _ _ _).symm.trans (load02 v _ _ _ _ _))
  | 3 => exact (ld_slot3 _).symm.trans ((View.readAt_eq_ld _ _ _).symm.trans (load03 v _ _ _ _ _))

theorem out_A (hc0 : cond0_0 i) :
    out0_A_4 c i arg3 harg3 arg4 harg4 arg5 harg5 arg6 harg6 arg7 harg7 arg8 harg8 hc0 x0 x1 x2 x3 = outTile x0 x2 x3 (fun r => scores (part x0 r) (keys x2 0)) := by
  have hcov := cover0_A_4 c i arg3 harg3 arg4 harg4 arg5 harg5 arg6 harg6 arg7 harg7 arg8 harg8 hc0 x0 x1 x2 x3
  unfold out0_A_4
  rw [outPieces_A] at hcov ⊢
  exact (View.read_writes_eq_canon _ _ _ hcov).trans (canon_outPieces x0 x2 x3 _ hcov)

theorem scr_A (hc0 : cond0_0 i) (r : Fin 4) :
    slot (sout0_A_0 c i arg3 harg3 arg4 harg4 arg5 harg5 arg6 harg6 arg7 harg7 arg8 harg8 hc0 x0 x1 x2 x3) r = scores (part x1 r) (keys x2 0) := by
  unfold sout0_A_0
  rw [scrPieces_A]
  exact slot_scrPieces x0 x1 x2 _ _ r

theorem out_B (hc0 : ¬cond0_0 i) :
    out0_B_4 c i arg3 harg3 arg4 harg4 arg5 harg5 arg6 harg6 arg7 harg7 arg8 harg8 hc0 x0 x1 x2 x3 xs0 = outTile x0 x2 x3 (slot xs0) := by
  have hcov := cover0_B_4 c i arg3 harg3 arg4 harg4 arg5 harg5 arg6 harg6 arg7 harg7 arg8 harg8 hc0 x0 x1 x2 x3 xs0
  unfold out0_B_4
  rw [outPieces_B] at hcov ⊢
  exact (View.read_writes_eq_canon _ _ _ hcov).trans (canon_outPieces x0 x2 x3 _ hcov)

theorem scr_B (hc0 : ¬cond0_0 i) (r : Fin 4) :
    slot (sout0_B_0 c i arg3 harg3 arg4 harg4 arg5 harg5 arg6 harg6 arg7 harg7 arg8 harg8 hc0 x0 x1 x2 x3 xs0) r = scores (part x1 r) (keys x2 0) := by
  unfold sout0_B_0
  rw [scrPieces_B]
  exact slot_scrPieces x0 x1 x2 _ _ r

end Runs

end Cert.KernelIdeal.Tile

end
-- ==== Proof.Attention.lean ====
/-
  Softmax attention as mathematics: what both programs are shown to compute. Eight query heads, two key heads (four
  query heads share one key head), 8448 keys, queries at the positions after the first 256.
-/
module

public import proofs.«01_k».proof.Proof.Softmax

@[expose] public section

noncomputable section

namespace Cert.Attention

variable (Q : Fin 2 → Fin 8448 → Fin 1024 → EReal) (K V : Fin 2 → Fin 8448 → Fin 256 → EReal)

/-- Column `d` of query head `h`. -/
def qcol (h : Fin 8) (d : Fin 128) : Fin 1024 := ⟨128 * h.val + d.val, by omega⟩

/-- Column `d` of the key head that query head `h` shares. -/
def kcol (h : Fin 8) (d : Fin 128) : Fin 256 := ⟨128 * (h.val / 4) + d.val, by omega⟩

/-- The position of query `x`. -/
def pos (x : Fin 8192) : Fin 8448 := ⟨256 + x.val, by omega⟩

/-- The dot product of query `x` of head `h` with key `s`. -/
def dotp (b : Fin 2) (x : Fin 8192) (h : Fin 8) (s : Fin 8448) : ℝ :=
  ∑ d : Fin 128, (K b s (kcol h d)).toReal * (Q b (pos x) (qcol h d)).toReal

/-- The logit: the dot product over the square root of the head's width. -/
def logit (b : Fin 2) (x : Fin 8192) (h : Fin 8) (s : Fin 8448) : ℝ := (Real.sqrt 128)⁻¹ * dotp Q K b x h s

/-- The attention of query `x` of head `h`: the values averaged with the softmax of the logits. -/
def attend (b : Fin 2) (x : Fin 8192) (h : Fin 8) (d : Fin 128) : EReal :=
  ∑ s, V b s (kcol h d) * ((Real.exp (logit Q K b x h s) / ∑ s', Real.exp (logit Q K b x h s') : ℝ) : EReal)

/-- The whole result at its index: column `128·h + d` is column `d` of head `h`. -/
def result (b : Fin 2) (x : Fin 8192) (e : Fin 1024) : EReal :=
  attend Q K V b x ⟨e.val / 128, by omega⟩ ⟨e.val % 128, Nat.mod_lt _ (by norm_num)⟩

end Cert.Attention

end
-- ==== Proof.Blocks.lean ====
/-
  The kernel's array block by block: the blocks a grid point is given, read off the arguments; what the score scratch
  carries from one point to the next; and what the point writes.
-/
module

public import proofs.«01_k».proof.Proof.Gen.KernelIdeal.Value
public import proofs.«01_k».proof.Proof.Tile
public import proofs.«01_k».proof.Proof.Attention
public import Idealize.ShloMosaic.Lib.Pipeline.ValueKit
public import Idealize.ShloMosaic.Lib.Claim

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Head Cert.KernelIdeal.Tile

/-! ## Which block each window is on -/

theorem idx0 : ∀ t : Fin cfg0.N, (cfg0.win 0).index t = ![t.val / 64, t.val % 32 + 1, t.val / 32 % 2] :=
  (by decide +kernel : ∀ t : Fin grid0.N, win0_0.index t = ![t.val / 64, t.val % 32 + 1, t.val / 32 % 2])
theorem idx1 : ∀ t : Fin cfg0.N, (cfg0.win 1).index t = ![t.val / 64, min (t.val % 32 + 1) 31 + 1, t.val / 32 % 2] :=
  (by decide +kernel : ∀ t : Fin grid0.N, win0_1.index t = ![t.val / 64, min (t.val % 32 + 1) 31 + 1, t.val / 32 % 2])
theorem idx2 : ∀ t : Fin cfg0.N, (cfg0.win 2).index t = ![t.val / 64, 0, t.val / 32 % 2] :=
  (by decide +kernel : ∀ t : Fin grid0.N, win0_2.index t = ![t.val / 64, 0, t.val / 32 % 2])
theorem idx3 : ∀ t : Fin cfg0.N, (cfg0.win 3).index t = ![t.val / 64, t.val / 32 % 2, 0, 0, 0] :=
  (by decide +kernel : ∀ t : Fin grid0.N, win0_3.index t = ![t.val / 64, t.val / 32 % 2, 0, 0, 0])
theorem idx4 : ∀ t : Fin cfg0.N, (cfg0.win 4).index t = ![t.val / 64, t.val % 32, t.val / 32 % 2] :=
  (by decide +kernel : ∀ t : Fin grid0.N, win0_4.index t = ![t.val / 64, t.val % 32, t.val / 32 % 2])

theorem lt_N (t : Fin cfg0.N) : t.val < 128 := lt_of_lt_of_eq t.isLt N_0

section Any

variable {F : FTy → Type} [FloatOps F]
variable (m : (ℓ : Loc nD τ sig) → Buf (Elt F) ℓ) (c : Dev nD)

theorem blk0 (t : Fin cfg0.N) (j : Fin 256) (e : Fin 512) :
    iblk m c 0 t (ix3 0 j e) = V m c main_v6 (ix3 (n0 := 2) (n1 := 8448) (n2 := 1024) ⟨t.val / 64, by have := lt_N t; omega⟩
      ⟨256 * (t.val % 32 + 1) + j.val, by omega⟩ ⟨512 * (t.val / 32 % 2) + e.val, by omega⟩) := by
  have := lt_N t
  blk_ext [iblk, idx0 t]

theorem blk1 (t : Fin cfg0.N) (j : Fin 256) (e : Fin 512) :
    iblk m c 1 t (ix3 0 j e) = V m c main_v6 (ix3 (n0 := 2) (n1 := 8448) (n2 := 1024) ⟨t.val / 64, by have := lt_N t; omega⟩
      ⟨256 * (min (t.val % 32 + 1) 31 + 1) + j.val, by omega⟩ ⟨512 * (t.val / 32 % 2) + e.val, by omega⟩) := by
  have := lt_N t
  blk_ext [iblk, idx1 t]

theorem blk2 (t : Fin cfg0.N) (s : Fin 8448) (d : Fin 128) :
    iblk m c 2 t (ix3 0 s d) = V m c main_arg1 (ix3 (n0 := 2) (n1 := 8448) (n2 := 256) ⟨t.val / 64, by have := lt_N t; omega⟩
      s ⟨128 * (t.val / 32 % 2) + d.val, by omega⟩) := by
  have := lt_N t
  blk_ext [iblk, idx2 t]

theorem blk3 (t : Fin cfg0.N) (kb : Fin 2) (d : Fin 128) (i : Fin 4224) :
    iblk m c 3 t (ix5 0 0 kb d i) = V m c main_v8 (ix5 (n0 := 2) (n1 := 2) (n2 := 2) (n3 := 128) (n4 := 4224) ⟨t.val / 64, by have := lt_N t; omega⟩
      ⟨t.val / 32 % 2, by omega⟩ kb d i) := by
  have := lt_N t
  blk_ext [iblk, idx3 t]

/-! ## What the scratch carries -/

/-- After point `t` the first half of the scratch holds the scores of the next point's queries against the first key block. -/
theorem carried (t : Fin cfg0.N) (r : Fin 4) :
    slot (outsAt0 m c t.val t.isLt).2 r = scores (part (iblk m c 1 t) r) (keys (iblk m c 2 t) 0) := by
  by_cases h0 : t.val % 32 = 0
  · rw [outsAt0_A m c t h0]; dsimp only
    exact scr_A (F := F) c _ _ _ _ _ _ _ _ _ _ _ _ _ _ _ _ _ _ r
  · rw [outsAt0_B m c t h0]; dsimp only
    exact scr_B (F := F) c _ _ _ _ _ _ _ _ _ _ _ _ _ _ _ _ _ _ _ r

/-- Within a row of points the block fetched ahead is the next point's own block. -/
theorem ahead (t t' : Fin cfg0.N) (h0 : ¬ t.val % 32 = 0) (ht : t'.val = t.val - 1) : (iblk m c 1 t' : Vec F S1x256x512 .bf16) = iblk m c 0 t := by
  have := lt_N t
  funext y
  obtain ⟨a, j, e, rfl⟩ : ∃ a j e, y = ix3 (n0 := 1) (n1 := 256) (n2 := 512) a j e := ⟨y 0, y 1, y 2, by funext i; fin_cases i <;> rfl⟩
  obtain rfl : a = 0 := Fin.fin_one_eq_zero a
  rw [blk0, blk1]
  congr 1
  congr 1 <;> apply Fin.ext <;> simp only [] <;> omega

theorem samekeys (t t' : Fin cfg0.N) (h0 : ¬ t.val % 32 = 0) (ht : t'.val = t.val - 1) : (iblk m c 2 t' : Vec F S1x8448x128 .bf16) = iblk m c 2 t := by
  have := lt_N t
  funext y
  obtain ⟨a, j, e, rfl⟩ : ∃ a j e, y = ix3 (n0 := 1) (n1 := 8448) (n2 := 128) a j e := ⟨y 0, y 1, y 2, by funext i; fin_cases i <;> rfl⟩
  obtain rfl : a = 0 := Fin.fin_one_eq_zero a
  rw [blk2, blk2]
  congr 1
  congr 1 <;> apply Fin.ext <;> simp only [] <;> omega

/-- What point `t` leaves in the output's buffer. -/
theorem left (t : Fin cfg0.N) :
    (outsAt0 m c t.val t.isLt).1 = outTile (iblk m c 0 t) (iblk m c 2 t) (iblk m c 3 t)
      (fun r => scores (part (iblk m c 0 t) r) (keys (iblk m c 2 t) 0)) := by
  by_cases h0 : t.val % 32 = 0
  · rw [outsAt0_A m c t h0]; dsimp only
    exact out_A (F := F) c _ _ _ _ _ _ _ _ _ _ _ _ _ _ _ _ _ _
  · rw [outsAt0_B m c t h0]; dsimp only
    refine (out_B (F := F) c _ _ _ _ _ _ _ _ _ _ _ _ _ _ _ _ _ _ _).trans ?_
    congr 1
    funext r
    rw [carried m c ⟨t.val - 1, Nat.lt_of_le_of_lt (Nat.sub_le _ _) t.isLt⟩ r, ahead m c t _ h0 rfl, samekeys m c t _ h0 rfl]

end Any

end Cert.KernelIdeal.Blocks

end
-- ==== Proof.Array.lean ====
/-
  The kernel's result array: at every index the attention of the query there.
-/
module

public import proofs.«01_k».proof.Proof.Blocks
public import Idealize.ShloMosaic.Lib.Tactic.CleanTypes

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Head Cert.KernelIdeal.Tile Cert.KernelIdeal.Blocks
open Cert.Softmax Cert.Attention

variable (m : (ℓ : Loc nD τ sig) → Buf (Elt Ideal) ℓ) (c : Dev nD)

/-- The queries, keys and values as functions of their coordinates. -/
def Q (b : Fin 2) (t : Fin 8448) (e : Fin 1024) : EReal := m ((c : Thread nD τ).loc main_arg0) (ix3 b t e)
def K (b : Fin 2) (t : Fin 8448) (e : Fin 256) : EReal := m ((c : Thread nD τ).loc main_arg1) (ix3 b t e)
def U (b : Fin 2) (t : Fin 8448) (e : Fin 256) : EReal := m ((c : Thread nD τ).loc main_arg2) (ix3 b t e)

theorem ofBits_two : Ideal.ofBits .f32 1073741824#32 = ((2 : ℝ) : EReal) := by
  simp [Ideal.ofBits, Ideal.ieee]; norm_cast; norm_num

/-- The scale of the queries, one over `√128 · log 2`. -/
theorem scale : Ideal.div 1 (Ideal.sqrt (Ideal.ofBits FTy.f32 1124073472#32) * Ideal.log (Ideal.ofBits FTy.f32 1073741824#32))
    = (((Real.log 2)⁻¹ * (Real.sqrt 128)⁻¹ : ℝ) : EReal) := by
  have h1 : (0 : ℝ) < Real.sqrt 128 := Real.sqrt_pos.mpr (by norm_num)
  have h2 : (0 : ℝ) < Real.log 2 := Real.log_pos (by norm_num)
  rw [sqrt_128, ofBits_two]
  have e2 : Ideal.log ((2 : ℝ) : EReal) = ((Real.log 2 : ℝ) : EReal) := if_neg (by norm_num)
  rw [e2, ← EReal.coe_mul, div_coe _ (mul_pos h1 h2), mul_one, mul_inv_rev]

/-- The queries the kernel is given are scaled. -/
theorem entry_q (b : Fin 2) (t : Fin 8448) (e : Fin 1024) :
    V m c main_v6 (ix3 b t e) = Q m c b t e * (((Real.log 2)⁻¹ * (Real.sqrt 128)⁻¹ : ℝ) : EReal) := by
  rw [← scale]
  entry_read
  clean_types
  pointwise [Q]

theorem entry_k (b : Fin 2) (t : Fin 8448) (e : Fin 256) : V m c main_arg1 (ix3 b t e) = K m c b t e := by
  rw [V_main_arg1]; rfl

/-- The values the kernel is given are split into two blocks of keys and transposed. -/
theorem entry_v (b g kb : Fin 2) (d : Fin 128) (i : Fin 4224) :
    V m c main_v8 (ix5 b g kb d i) = U m c b ⟨4224 * kb.val + i.val, by omega⟩ ⟨128 * g.val + d.val, by omega⟩ := by
  entry_read
  clean_types
  pointwise [U]
  simp only [Nat.mul_comm]

/-! ## One point -/

variable (hQ : ∀ b t e, IsReal (Q m c b t e)) (hK : ∀ b t e, IsReal (K m c b t e))

/-- Key `i` of block `kb`. -/
def key (kb : Fin 2) (i : Fin 4224) : Fin 8448 := ⟨4224 * kb.val + i.val, by omega⟩

theorem key_zero (i : Fin 4224) : key 0 i = ⟨i.val, by omega⟩ := Fin.ext (by show 4224 * 0 + i.val = i.val; omega)
theorem key_one (i : Fin 4224) : key 1 i = ⟨4224 + i.val, by omega⟩ := rfl

include hQ hK in
/-- A score: the logit over `log 2`. -/
theorem score (t : Fin cfg0.N) (j : Fin 256) (r : Fin 4) (b : Fin 2) (x : Fin 8192) (h : Fin 8) (hb : b.val = t.val / 64)
    (hx : x.val = 256 * (t.val % 32) + j.val) (hh : h.val = 4 * (t.val / 32 % 2) + r.val) (kb : Fin 2) (i : Fin 4224) :
    scores (part (iblk m c 0 t) r) (keys (iblk m c 2 t) kb) (ix4 0 0 i j)
      = (((Real.log 2)⁻¹ * logit (Q m c) (K m c) b x h (key kb i) : ℝ) : EReal) := by
  have hr := r.isLt
  have hj := j.isLt
  rw [scores_apply]
  have e : ∀ d : Fin 128, (keys (iblk m c 2 t) kb : Vec Ideal S1x4224x128 .bf16) (ix3 0 i d)
      * (part (iblk m c 0 t) r : Vec Ideal S1x256x128 .bf16) (ix3 0 j d)
      = (((Real.log 2)⁻¹ * (Real.sqrt 128)⁻¹ * ((K m c b (key kb i) (kcol h d)).toReal * (Q m c b (pos x) (qcol h d)).toReal) : ℝ) : EReal) := by
    intro d
    have e1 : (keys (iblk m c 2 t) kb : Vec Ideal S1x4224x128 .bf16) (ix3 0 i d) = K m c b (key kb i) (kcol h d) := by
      refine (blk2 m c t (key kb i) d).trans ((entry_k m c _ _ _).trans ?_)
      congr 1 <;> apply Fin.ext <;> simp only [kcol] <;> omega
    have e2 : (part (iblk m c 0 t) r : Vec Ideal S1x256x128 .bf16) (ix3 0 j d)
        = Q m c b (pos x) (qcol h d) * (((Real.log 2)⁻¹ * (Real.sqrt 128)⁻¹ : ℝ) : EReal) := by
      refine (blk0 m c t j ⟨128 * r.val + d.val, by omega⟩).trans ((entry_q m c _ _ _).trans ?_)
      congr 1
      congr 1 <;> apply Fin.ext <;> simp only [qcol, pos] <;> omega
    rw [e1, e2]
    conv_lhs => rw [← coe_toReal (hK b (key kb i) (kcol h d)), ← coe_toReal (hQ b (pos x) (qcol h d))]
    rw [← EReal.coe_mul, ← EReal.coe_mul]
    congr 1
    ring
  rw [Finset.sum_congr rfl fun d _ => e d, ← coe_sum, ← Finset.mul_sum]
  congr 1
  unfold logit dotp
  ring

include hQ hK in
/-- What point `t` leaves at row `j` and column `d` of its head `r`: the attention there. -/
theorem point (t : Fin cfg0.N) (j : Fin 256) (r : Fin 4) (d : Fin 128) (b : Fin 2) (x : Fin 8192) (h : Fin 8) (hb : b.val = t.val / 64)
    (hx : x.val = 256 * (t.val % 32) + j.val) (hh : h.val = 4 * (t.val / 32 % 2) + r.val) :
    headOf (scores (part (iblk m c 0 t) r) (keys (iblk m c 2 t) 0)) (part (iblk m c 0 t) r) (iblk m c 2 t) (iblk m c 3 t) (ix3 0 j d)
      = attend (Q m c) (K m c) (U m c) b x h d := by
  have hr := r.isLt
  have hs := score m c hQ hK t j r b x h hb hx hh
  have hreal : ∀ (kb : Fin 2) (y : S1x1x4224x256.Idx), IsReal (scores (part (iblk m c 0 t) r) (keys (iblk m c 2 t) kb) y) := by
    intro kb y
    obtain ⟨a, a', i, j', rfl⟩ : ∃ a a' i j', y = ix4 (n0 := 1) (n1 := 1) (n2 := 4224) (n3 := 256) a a' i j' :=
      ⟨y 0, y 1, y 2, y 3, by funext q; fin_cases q <;> rfl⟩
    obtain rfl : a = 0 := Fin.fin_one_eq_zero a
    obtain rfl : a' = 0 := Fin.fin_one_eq_zero a'
    exact ⟨_, score m c hQ hK t j' r b ⟨256 * (t.val % 32) + j'.val, by omega⟩ h hb rfl hh kb i⟩
  refine (head_apply _ _ _ _ (fun i => (Real.log 2)⁻¹ * logit (Q m c) (K m c) b x h (key 0 i))
    (fun i => (Real.log 2)⁻¹ * logit (Q m c) (K m c) b x h (key 1 i)) j d (hreal 0) (hreal 1) (fun i => hs 0 i) (fun i => hs 1 i)).trans ?_
  have hv : ∀ (kb : Fin 2) (i : Fin 4224), (vals (iblk m c 3 t) kb : Vec Ideal S1x1x1x128x4224 .bf16) (ix5 0 0 0 d i) = U m c b (key kb i) (kcol h d) := by
    intro kb i
    refine (blk3 m c t kb d i).trans ((entry_v m c _ _ _ _ _).trans ?_)
    congr 1 <;> apply Fin.ext <;> simp only [kcol] <;> omega
  have hp : ∀ y : ℝ, (2 : ℝ) ^ ((Real.log 2)⁻¹ * y) = Real.exp y := fun y => by
    rw [mul_comm, ← div_eq_mul_inv, two_rpow_div_log]
  simp only [hp, hv]
  unfold attend
  rw [Fin.sum_univ_two_halves 4224 4224 rfl, Fin.sum_univ_two_halves 4224 4224 rfl]
  simp only [key_zero, key_one]

/-! ## The array -/

include hQ hK in
/-- What point `t` writes is its block of the attention. -/
theorem block (t : Fin cfg0.N) (y : S1x256x512.Idx) (i : S2x8192x1024.Idx) (h0 : (i 0).val = t.val / 64)
    (h1 : (i 1).val = 256 * (t.val % 32) + (y 1).val) (h2 : (i 2).val = 512 * (t.val / 32 % 2) + (y 2).val) :
    (outsAt0 m c t.val t.isLt).1 y = result (Q m c) (K m c) (U m c) (i 0) (i 1) (i 2) := by
  have hy : (y 2).val < 512 := (y 2).isLt
  rw [left]
  refine (outTile_apply _ _ _ _ ⟨(y 2).val / 128, by omega⟩ (y 1) ⟨(y 2).val % 128, Nat.mod_lt _ (by norm_num)⟩ y rfl
    (by simp only []; omega)).trans ?_
  refine (point m c hQ hK t (y 1) ⟨(y 2).val / 128, by omega⟩ ⟨(y 2).val % 128, Nat.mod_lt _ (by norm_num)⟩ (i 0) (i 1)
    ⟨(i 2).val / 128, by have : (i 2).val < 1024 := (i 2).isLt; omega⟩ h0 h1 (by simp only []; omega)).trans ?_
  unfold result
  congr 1
  apply Fin.ext
  simp only []
  omega

include hQ hK in
/-- The result array after the run. -/
theorem final : (dats m 0 c).arrAt 4 cfg0.N
    = (fun i => result (Q m c) (K m c) (U m c) (i 0) (i 1) (i 2) : Vec Ideal S2x8192x1024 .bf16) := by
  refine (dats m 0 c).arrAt_eq_of_covers 4 _ (by decide +kernel) fun t hf y => ?_
  blk_simp
  rw [after0_4]
  refine block m c hQ hK t _ _ ?_ ?_ ?_ <;> blk_simp [idx4 t] <;> omega

end Cert.KernelIdeal.Array

end
-- ==== Proof.Reference.lean ====
/-
  What the reference computes, at every index: the attention of the query there.
-/
module

public import proofs.«01_k».proof.Proof.Gen.ReferenceIdeal.Run
public import proofs.«01_k».proof.Proof.Attention
public import Idealize.ShloMosaic.Lib.Pointwise
public import Idealize.ShloMosaic.Lib.Tactic.CleanTypes

@[expose] public section

set_option maxRecDepth 16384

noncomputable section

namespace Cert.ReferenceIdeal.Array

open Idealize.ShloMosaic Idealize.ShloMosaic.TcCoe Idealize.SL.Sem
open Cert.ReferenceIdeal Cert.ReferenceIdeal.Gen
open Cert.Softmax Cert.Attention

section Any

variable {F : FTy → Type} [FloatOps F]

/-- The logits. -/
def logits (q : FVec F S2x8448x1024 .f32) (k : FVec F S2x8448x256 .bf16) : FVec F S2x2x4x8192x8448 .f32 :=
  Host.divf
    (transpose S2x2x4x8192x8448 [0, 1, 4, 3, 2]
      (Host.dotGeneral dot_S2x8448x2x128_S2x8192x2x4x128_S2x2x8448x8192x4_3_4_1_13_02_02 none
        (shapeCast S2x8448x2x128 (extf .f32 k bitsLt_bf16_f32) shapeCasts_S2x8448x256_S2x8448x2x128)
        (shapeCast S2x8192x2x4x128 (extractStridedSlice S2x8192x1024 ![0, 256, 0] q slices_S2x8448x1024_S2x8192x1024_0_256_0)
          shapeCasts_S2x8192x1024_S2x8192x2x4x128))
      transposes_S2x2x8448x8192x4_S2x2x4x8192x8448_0_1_4_3_2)
    (broadcastInDim S2x2x4x8192x8448 ![] bcast_S_S2x2x4x8192x8448 (Host.sqrt (constant S_ .f32 0x43000000#32)))

/-- Every query's greatest logit, -/
def rowMax (s : FVec F S2x2x4x8192x8448 .f32) : FVec F S2x2x4x8192 .f32 :=
  Host.reduce FloatOps.maximumf s (constant S_ .f32 0xFF800000#32) reducesTo_S2x2x4x8192x8448_S2x2x4x8192_d4 h_S_

/-- and the number that is subtracted from the logits. -/
def top (s : FVec F S2x2x4x8192x8448 .f32) : FVec F S2x2x4x8192 .f32 :=
  maximumf (broadcastInDim S2x2x4x8192 ![] bcast_S_S2x2x4x8192 (constant S_ .f32 0xFF800000#32)) (rowMax s)

/-- Copies of a number per query along the keys. -/
def spread (x : FVec F S2x2x4x8192 .f32) : FVec F S2x2x4x8192x8448 .f32 :=
  broadcastInDim S2x2x4x8192x8448 ![0, 1, 2, 3, 4] bcast_S2x2x4x8192x1_S2x2x4x8192x8448_0_1_2_3_4
    (broadcastInDim S2x2x4x8192x1 ![0, 1, 2, 3] bcast_S2x2x4x8192_S2x2x4x8192x1_0_1_2_3 x)

/-- The weights before they are normalised. -/
def raw (s : FVec F S2x2x4x8192x8448 .f32) : FVec F S2x2x4x8192x8448 .f32 := Host.exp (subf s (spread (top s)))

/-- The weights. -/
def probs (s : FVec F S2x2x4x8192x8448 .f32) : FVec F S2x2x4x8192x8448 .f32 :=
  Host.divf (raw s)
    (spread (Host.reduceAdd (raw s) (constant S_ .f32 0x00000000#32) reducesTo_S2x2x4x8192x8448_S2x2x4x8192_d4 h_S_))

/-- The values averaged with the weights. -/
def out (p : FVec F S2x2x4x8192x8448 .f32) (v : FVec F S2x8448x256 .bf16) : FVec F S2x8192x1024 .bf16 :=
  truncf .bf16
    (shapeCast S2x8192x1024
      (transpose S2x8192x2x4x128 [0, 4, 1, 3, 2]
        (Host.dotGeneral dot_S2x8448x2x128_S2x2x4x8192x8448_S2x2x128x4x8192_1_4_3_23_02_01 none
          (shapeCast S2x8448x2x128 (extf .f32 v bitsLt_bf16_f32) shapeCasts_S2x8448x256_S2x8448x2x128) p)
        transposes_S2x2x128x4x8192_S2x8192x2x4x128_0_4_1_3_2)
      shapeCasts_S2x8192x2x4x128_S2x8192x1024) bitsLt_bf16_f32

/-- The reference's run, its result by these steps. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = out (probs (logits (m ((c.tc : Thread nD τ).loc main_arg0)) (m ((c.tc : Thread nD τ).loc main_arg1))))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.ReferenceIdeal.Value.run m ρ)

end Any

theorem logits_apply (q : FVec Ideal S2x8448x1024 .f32) (k : FVec Ideal S2x8448x256 .bf16) (b g : Fin 2) (r : Fin 4) (x : Fin 8192) (s : Fin 8448) :
    logits q k (ix5 b g r x s)
      = Ideal.div (∑ d : Fin 128, k (ix3 b s ⟨g.val * 128 + d.val, by omega⟩) * q (ix3 b ⟨256 + x.val, by omega⟩ ⟨g.val * 512 + r.val * 128 + d.val, by omega⟩))
          (Ideal.sqrt (Ideal.ofBits .f32 1124073472#32)) := by
  pointwise [logits]

theorem ofBits_negInf : Ideal.ofBits .f32 0xFF800000#32 = ⊥ := by simp [Ideal.ofBits, Ideal.ieee]

/-- A maximum of real numbers is real at an index that some source index drops to. -/
theorem isReal_reduce {s t u : Shape} {axes : List (Fin s.rank)} (src : FVec Ideal s .f32) (init : FVec Ideal u .f32) (h : s.ReducesTo axes t)
    (hu : 0 < u.numel) (hinit : init (Shape.Idx.first hu) = (⊥ : EReal)) (j : t.Idx) (i : s.Idx) (hi : h.drop i = j) (hs : ∀ i, IsReal (src i)) :
    IsReal (Host.reduce (FloatOps.maximumf (F := Ideal) (φ := .f32)) src init h hu j) := by
  rw [Host.reduce_eq_fold, hinit]
  exact isReal_fold_max _ _ ⟨i, by simp [hi]⟩ fun i _ => hs i

/-- The greatest logit of a query is real when all logits are. -/
theorem rowMax_isReal (s : FVec Ideal S2x2x4x8192x8448 .f32) (hs : ∀ i, IsReal (s i)) (b g : Fin 2) (r : Fin 4) (x : Fin 8192) (y : Fin 8448)
    (hd : reducesTo_S2x2x4x8192x8448_S2x2x4x8192_d4.drop (ix5 b g r x y) = ix4 b g r x) : IsReal (rowMax s (ix4 b g r x)) :=
  isReal_reduce s (constant S_ .f32 0xFF800000#32) reducesTo_S2x2x4x8192x8448_S2x2x4x8192_d4 h_S_ ofBits_negInf (ix4 b g r x) (ix5 b g r x y) hd hs

/-- An index with its last coordinate dropped. -/
theorem drop_last {n0 n1 n2 n3 n4 : Nat} (h : (⟨5, ![n0, n1, n2, n3, n4]⟩ : Shape).ReducesTo [4] ⟨4, ![n0, n1, n2, n3]⟩)
    (i0 : Fin n0) (i1 : Fin n1) (i2 : Fin n2) (i3 : Fin n3) (i4 : Fin n4) : h.drop (ix5 i0 i1 i2 i3 i4) = ix4 i0 i1 i2 i3 := by
  funext a
  apply Fin.ext
  match a with
  | 0 => exact h.drop_apply_val_of_eq (ix5 i0 i1 i2 i3 i4) 0 0 (show 0 < 4 by decide) rfl
  | 1 => exact h.drop_apply_val_of_eq (ix5 i0 i1 i2 i3 i4) 1 1 (show 1 < 4 by decide) rfl
  | 2 => exact h.drop_apply_val_of_eq (ix5 i0 i1 i2 i3 i4) 2 2 (show 2 < 4 by decide) rfl
  | 3 => exact h.drop_apply_val_of_eq (ix5 i0 i1 i2 i3 i4) 3 3 (show 3 < 4 by decide) rfl

theorem max_apply {s : Shape} (x y : FVec Ideal s .f32) (i : s.Idx) : maximumf x y i = (max (x i) (y i) : EReal) := rfl

theorem copies_apply {u s : Shape} {dims : Fin u.rank → Fin s.rank} (h : u.BroadcastsInDim s dims) (w : BitVec 32) (i : s.Idx) :
    broadcastInDim s dims h (constant u .f32 w : FVec Ideal u .f32) i = Ideal.ofBits .f32 w := rfl

theorem top_isReal (s : FVec Ideal S2x2x4x8192x8448 .f32) (hs : ∀ i, IsReal (s i)) (b g : Fin 2) (r : Fin 4) (x : Fin 8192) :
    IsReal (top s (ix4 b g r x)) := by
  have e : top s (ix4 b g r x) = max (Ideal.ofBits .f32 0xFF800000#32) (rowMax s (ix4 b g r x)) := by
    rw [top, max_apply, copies_apply]
  rw [e, ofBits_negInf, max_bot_left]
  exact rowMax_isReal s hs b g r x ⟨0, by norm_num⟩ (drop_last _ _ _ _ _ _)

theorem raw_apply (s : FVec Ideal S2x2x4x8192x8448 .f32) (b g : Fin 2) (r : Fin 4) (x : Fin 8192) (i : Fin 8448) :
    raw s (ix5 b g r x i) = Ideal.exp (s (ix5 b g r x i) - top s (ix4 b g r x)) := by
  pointwise [raw, spread]

theorem probs_apply (s : FVec Ideal S2x2x4x8192x8448 .f32) (b g : Fin 2) (r : Fin 4) (x : Fin 8192) (i : Fin 8448) :
    probs s (ix5 b g r x i) = Ideal.div (raw s (ix5 b g r x i)) (∑ j : Fin 8448, raw s (ix5 b g r x j)) := by
  pointwise [probs, spread]

theorem out_apply (p : FVec Ideal S2x2x4x8192x8448 .f32) (v : FVec Ideal S2x8448x256 .bf16) (b : Fin 2) (x : Fin 8192) (e : Fin 1024) :
    out p v (ix3 b x e) = ∑ s : Fin 8448, v (ix3 b s ⟨e.val / 512 * 128 + e.val % 128, by omega⟩)
      * p (ix5 b ⟨e.val / 512, by omega⟩ ⟨e.val / 128 % 4, by omega⟩ x s) := by
  pointwise [out]

variable (q : FVec Ideal S2x8448x1024 .f32) (k v : FVec Ideal S2x8448x256 .bf16)
variable (hq : ∀ i, IsReal (q i)) (hk : ∀ i, IsReal (k i))

/-- An array's elements by their coordinates. -/
abbrev at3 {n1 n2 : Nat} (x : Shape.Idx ⟨3, ![2, n1, n2]⟩ → EReal) (b : Fin 2) (t : Fin n1) (e : Fin n2) : EReal := x (ix3 b t e)

include hq hk in
theorem logits_eq (b g : Fin 2) (r : Fin 4) (x : Fin 8192) (s : Fin 8448) (h : Fin 8) (hh : h.val = 4 * g.val + r.val) :
    logits q k (ix5 b g r x s) = ((logit (at3 q) (at3 k) b x h s : ℝ) : EReal) := by
  have hs : (0 : ℝ) < Real.sqrt 128 := Real.sqrt_pos.mpr (by norm_num)
  have hr := r.isLt
  rw [logits_apply, sqrt_128, div_coe _ hs]
  have e : ∀ d : Fin 128, k (ix3 b s ⟨g.val * 128 + d.val, by omega⟩) * q (ix3 b ⟨256 + x.val, by omega⟩ ⟨g.val * 512 + r.val * 128 + d.val, by omega⟩)
      = (((at3 k b s (kcol h d)).toReal * (at3 q b (pos x) (qcol h d)).toReal : ℝ) : EReal) := by
    intro d
    have e1 : (⟨g.val * 128 + d.val, by omega⟩ : Fin 256) = kcol h d := Fin.ext (by simp only [kcol]; omega)
    have e2 : (⟨g.val * 512 + r.val * 128 + d.val, by omega⟩ : Fin 1024) = qcol h d := Fin.ext (by simp only [qcol]; omega)
    rw [e1, e2, EReal.coe_mul, coe_toReal (hk _), coe_toReal (hq _)]
    rfl
  rw [Finset.sum_congr rfl fun d _ => e d, ← coe_sum, ← EReal.coe_mul]
  rfl

include hq hk in
/-- The reference's result at an index: the attention there. -/
theorem out_eq (b : Fin 2) (x : Fin 8192) (e : Fin 1024) :
    out (probs (logits q k)) v (ix3 b x e) = result (at3 q) (at3 k) (at3 v) b x e := by
  have he := e.isLt
  have hreal : ∀ i, IsReal (logits q k i) := by
    intro i
    obtain ⟨b, g, r, x, s, rfl⟩ : ∃ b g r x s, i = ix5 (n0 := 2) (n1 := 2) (n2 := 4) (n3 := 8192) (n4 := 8448) b g r x s :=
      ⟨i 0, i 1, i 2, i 3, i 4, by funext a; fin_cases a <;> rfl⟩
    exact ⟨_, logits_eq q k hq hk b g r x s ⟨4 * g.val + r.val, by omega⟩ rfl⟩
  obtain ⟨μ, hμ⟩ := top_isReal _ hreal b ⟨e.val / 512, by omega⟩ ⟨e.val / 128 % 4, by omega⟩ x
  have hl : ∀ s, logits q k (ix5 b ⟨e.val / 512, by omega⟩ ⟨e.val / 128 % 4, by omega⟩ x s)
      = ((logit (at3 q) (at3 k) b x ⟨e.val / 128, by omega⟩ s : ℝ) : EReal) :=
    fun s => logits_eq q k hq hk b _ _ x s _ (by simp only []; omega)
  rw [out_apply]
  simp only [probs_apply, raw_apply, hl, hμ]
  refine (at_once (fun s => logit (at3 q) (at3 k) b x ⟨e.val / 128, by omega⟩ s) _ μ).trans ?_
  unfold result attend
  refine Finset.sum_congr rfl fun s _ => ?_
  refine congrArg (fun z => v (ix3 b s z) * _) (Fin.ext ?_)
  simp only [kcol]
  omega

end Cert.ReferenceIdeal.Array

end
-- ==== Proof.Precondition.lean ====
/-
  What the preconditions say: the queries and the keys are real numbers; and so are the tokens, their shift and scale
  and the weights of the gates.
-/
module

public import proofs.«01_k».proof.Proof.Gen.Pre_finite_scores
public import proofs.«01_k».proof.Proof.Gen.Pre_finite_tokens
public import proofs.«01_k».proof.Proof.Softmax
public import Idealize.ShloMosaic.Lib.Pointwise
public import Idealize.ShloMosaic.Lib.Affine
public import Idealize.ShloMosaic.Lib.ReduceAll

@[expose] public section

set_option maxRecDepth 16384

noncomputable section

namespace Cert.Precondition

open Idealize.ShloMosaic
open Cert.Softmax
open Cert.Pre_finite_scores (S_ S2x8448x1024 S2x8448x256)

instance : Subsingleton S_.Idx := ⟨fun i j => funext fun a => a.elim0⟩

theorem ofBits_inf : Ideal.ofBits .f32 0x7F800000#32 = ⊤ := by simp [Ideal.ofBits, Ideal.ieee]

/-- An element whose magnitude compares less than infinity is real. -/
theorem isReal_of_less {s : Shape} {dims : Fin S_.rank → Fin s.rank} (hb : S_.BroadcastsInDim s dims) (x : FVec Ideal s .f32) (i : s.Idx)
    (e : cmpf .olt (Host.absf x) (broadcastInDim s dims hb (constant S_ .f32 0x7F800000#32 : FVec Ideal S_ .f32)) i = 1#1) :
    IsReal (x i : EReal) := by
  have e' : Ideal.cmp .olt (max (x i) (-(x i)) : EReal) (Ideal.ofBits .f32 0x7F800000#32) = 1#1 := e
  rw [ofBits_inf] at e'
  refine isReal_of_abs_lt ?_
  by_contra hc
  simp [Ideal.cmp, hc] at e'

/-- Where all elements' magnitudes compare less than infinity, every element is real. -/
theorem isReal_of_all {s : Shape} {axes : List (Fin s.rank)} {dims : Fin S_.rank → Fin s.rank} (hb : S_.BroadcastsInDim s dims)
    (h : s.ReducesTo axes S_) (hu : 0 < S_.numel) (x : FVec Ideal s .f32) (j : S_.Idx)
    (e : Host.reduce IntOp.andi (cmpf .olt (Host.absf x) (broadcastInDim s dims hb (constant S_ .f32 0x7F800000#32 : FVec Ideal S_ .f32)))
      (constantI S_ 1 1#1) h hu j = 1#1) (i : s.Idx) : IsReal (x i : EReal) :=
  isReal_of_less hb x i (Host.reduce_andi_all _ _ h hu j e i)

/-- The precondition, read. -/
theorem real (q : FVec Ideal S2x8448x1024 .f32) (k v : FVec Ideal S2x8448x256 .bf16)
    (h : Cert.Pre_finite_scores.fn (F := Ideal) q k v = fun _ => 1#1) :
    (∀ i, IsReal (q i : EReal)) ∧ ∀ i, IsReal (k i : EReal) := by
  have h' := congrFun h (fun a => a.elim0)
  dsimp only [Cert.Pre_finite_scores.fn] at h'
  obtain ⟨hq, hk⟩ := IntOp.andi_eq_one.1 h'
  exact ⟨isReal_of_all _ _ _ q _ hq, isReal_of_all _ _ _ (extf .f32 k _) _ hk⟩

/-- The projection's precondition, read. -/
theorem realTokens (x : FVec Ideal Cert.Pre_finite_tokens.S2x256x1024 .f32) (y : FVec Ideal Cert.Pre_finite_tokens.S2x8192x1024 .f32)
    (md : FVec Ideal Cert.Pre_finite_tokens.S2x2x6x1024 .f32) (w : FVec Ideal Cert.Pre_finite_tokens.S1024x5680 .f32)
    (h : Cert.Pre_finite_tokens.fn (F := Ideal) x y md w = fun _ => 1#1) :
    ((∀ i, IsReal (x i : EReal)) ∧ ∀ i, IsReal (y i : EReal))
      ∧ (∀ (b g : Fin 2) (k : Fin 2) (e : Fin 1024), IsReal (md (ix4 b g ⟨k.val, by omega⟩ e) : EReal))
      ∧ (∀ (e : Fin 1024) (n : Fin 16), IsReal (w (ix2 e ⟨3072 + n.val, by omega⟩) : EReal))
      ∧ ∀ (e : Fin 1024) (n : Fin 32), IsReal (w (ix2 e ⟨5648 + n.val, by omega⟩) : EReal) := by
  have h' := congrFun h (fun a => a.elim0)
  dsimp only [Cert.Pre_finite_tokens.fn, Cert.Pre_finite_tokens.fn_part1] at h'
  obtain ⟨ha, hb⟩ := IntOp.andi_eq_one.1 h'
  obtain ⟨hx, hy⟩ := IntOp.andi_eq_one.1 ha
  obtain ⟨hm, hw⟩ := IntOp.andi_eq_one.1 hb
  obtain ⟨hu, hv⟩ := IntOp.andi_eq_one.1 hw
  have rm := isReal_of_all _ _ _ _ _ hm
  have ru := isReal_of_all _ _ _ _ _ hu
  have rv := isReal_of_all _ _ _ _ _ hv
  refine ⟨⟨isReal_of_all _ _ _ x _ hx, isReal_of_all _ _ _ y _ hy⟩, fun b g k e => ?_, fun e n => ?_, fun e n => ?_⟩
  · have := rm (ix4 b g k e)
    pointwise at this
    exact this
  · have := ru (ix2 e n)
    pointwise at this
    exact this
  · have := rv (ix2 e n)
    pointwise at this
    exact this

end Cert.Precondition

end
-- ==== Proof.Projected.lean ====
/-
  The input projection of the even layer as functions of coordinates: the modulated tokens, context first, and their
  products with the columns of the input weights.
-/
module

public import proofs.«01_k».proof.Proof.Softmax

@[expose] public section

noncomputable section

namespace Cert.Projected

open Idealize.ShloMosaic Cert.Softmax

variable (ctx : Fin 2 → Fin 256 → Fin 1024 → EReal) (x : Fin 2 → Fin 8192 → Fin 1024 → EReal)
  (md : Fin 2 → Fin 2 → Fin 6 → Fin 1024 → EReal) (w : Fin 1024 → Fin 5680 → EReal)

/-- One plus the scale and the shift of a group's modulation, `0` the context's and `1` the latents'. -/
def shifted (b g : Fin 2) (e : Fin 1024) (y : EReal) : EReal :=
  y * (1 + md b g 1 e) + md b g 0 e

/-- The modulated token at position `t`, of the context below position 256. -/
def token (b : Fin 2) (t : Fin 8448) (e : Fin 1024) : EReal :=
  if h : t.val < 256 then shifted md b 0 e (ctx b ⟨t.val, h⟩ e)
  else shifted md b 1 e (x b ⟨t.val - 256, by omega⟩ e)

/-- The product of a token with a column of the weights. -/
def proj (b : Fin 2) (t : Fin 8448) (n : Fin 5680) : EReal := ∑ e : Fin 1024, token ctx x md b t e * w e n

/-- The columns from `o` on. -/
def cols (o : ℕ) {k : ℕ} (h : o + k ≤ 5680) (b : Fin 2) (t : Fin 8448) (n : Fin k) : EReal :=
  proj ctx x md w b t ⟨o + n.val, by omega⟩

/-- The queries: the first columns, scaled. -/
def query (b : Fin 2) (t : Fin 8448) (n : Fin 512) : EReal :=
  cols ctx x md w 0 (by norm_num) b t n * Ideal.ofBits .f32 0x3DB504F3#32

/-- A column of the gates: input and forget gates, then the step sizes, then padding. -/
def gate (b : Fin 2) (t : Fin 8448) (n : Fin 128) : EReal :=
  if n.val < 16 then proj ctx x md w b t ⟨3072 + n.val, by omega⟩
  else if h : n.val < 48 then proj ctx x md w b t ⟨5632 + n.val, by omega⟩
  else 0

/-- A real number's product in two parts, high and low, when nothing is left below the high part. -/
theorem parts_sum {n : ℕ} (a c : Fin n → EReal) (ha : ∀ e, IsReal (a e)) (hc : ∀ e, IsReal (c e)) :
    (∑ e, a e * c e) + (∑ e, (a e - a e) * c e) + (∑ e, a e * (c e - c e)) = ∑ e, a e * c e := by
  have z : ∀ y : EReal, IsReal y → y - y = 0 := by
    rintro y ⟨r, rfl⟩
    rw [← EReal.coe_sub, sub_self, EReal.coe_zero]
  simp [z _ (ha _), z _ (hc _)]

theorem isReal_add {a b : EReal} (ha : IsReal a) (hb : IsReal b) : IsReal (a + b) := by
  obtain ⟨r, rfl⟩ := ha; obtain ⟨s, rfl⟩ := hb; exact ⟨r + s, (EReal.coe_add r s).symm⟩

theorem isReal_one : IsReal 1 := ⟨1, EReal.coe_one.symm⟩

theorem token_isReal (hctx : ∀ b t e, IsReal (ctx b t e)) (hx : ∀ b t e, IsReal (x b t e)) (hmd : ∀ b g (k : Fin 2) e, IsReal (md b g ⟨k.val, by omega⟩ e))
    (b : Fin 2) (t : Fin 8448) (e : Fin 1024) : IsReal (token ctx x md b t e) := by
  unfold token shifted
  split
  · exact isReal_add (IsReal.mul (hctx _ _ _) (isReal_add isReal_one (hmd _ _ 1 _))) (hmd _ _ 0 _)
  · exact isReal_add (IsReal.mul (hx _ _ _) (isReal_add isReal_one (hmd _ _ 1 _))) (hmd _ _ 0 _)

end Cert.Projected

end
-- ==== Proof.ProjectionTile.lean ====
/-
  One grid point of the projection: what it writes of each result, from the blocks it was given.
-/
module

public import proofs.«01_k».proof.Proof.Gen.ProjectionIdeal.Frame
public import proofs.«01_k».proof.Proof.Projected
public import Idealize.ShloMosaic.Lib.Pointwise
public import Idealize.ShloMosaic.Lib.Pipeline.Value
public import Idealize.ShloMosaic.Lib.Tactic

@[expose] public section

noncomputable section

namespace Cert.ProjectionIdeal.Tile

open Idealize.ShloMosaic Idealize.ShloMosaic.TcCoe Idealize.SL.Sem
open Cert.ProjectionIdeal Cert.ProjectionIdeal.Gen Cert.Softmax

variable (i : grid0.Coords) (x0 x1 : Vec Ideal S1x256x1024 .f32) (x2 : Vec Ideal S1x1x6x1024 .f32)
  (x3 : Vec Ideal S1024x5632 .bf16) (x4 : Vec Ideal S1024x128 .f32)

/-- A modulated token of the block: the context's at the first point of a batch, else the latents'. -/
def tok (j : Fin 256) (e : Fin 1024) : EReal :=
  (if (i 1).val < 1 then x0 (ix3 0 j e) else x1 (ix3 0 j e)) * (1 + x2 (ix4 0 0 1 e)) + x2 (ix4 0 0 0 e)

theorem zero3 : (![0, 0, 0] : Fin 3 → ℕ) = fun _ => 0 := by decide
theorem zero4 : (![0, 0, 0, 0] : Fin 4 → ℕ) = fun _ => 0 := by decide
theorem zero2 : (![0, 0] : Fin 2 → ℕ) = fun _ => 0 := by decide

theorem whole_token (y : Vec Ideal S1x256x1024 .f32) : View.ld y r0_0 = y := View.ld_unit_zero zero3 _ y
theorem whole_mod (y : Vec Ideal S1x1x6x1024 .f32) : View.ld y r0_1 = y := View.ld_unit_zero zero4 _ y
theorem whole_gate (y : Vec Ideal S1024x128 .f32) : View.ld y r0_10 = y := View.ld_unit_zero zero2 _ y

theorem first (n : ℕ) (hn : n < 33) : Scalar.cmpi .slt (BitVec.ofNat 32 n) 1#32 = if n < 1 then 1#1 else 0#1 := by
  revert n; decide

theorem pay2_apply (j : Fin 256) (e : Fin 1024) : k0_pay2 i x0 x1 x2 (ix2 j e) = tok i x0 x1 x2 j e := by
  have hi : (i 1).val < 33 := (i 1).isLt
  unfold tok
  by_cases h : (i 1).val < 1
  · rw [if_pos h]
    pointwise [k0_pay2, first _ hi]
    simp only [h, if_true]
    rfl
  · rw [if_neg h]
    pointwise [k0_pay2, first _ hi]
    simp only [h, if_false]
    rfl

theorem out5_apply (j : Fin 256) (n : Fin 512) : out0_5 i x0 x1 x2 x3 x4 (ix3 0 j n)
    = (∑ e : Fin 1024, tok i x0 x1 x2 j e * x3 (ix2 e ⟨0 + n.val, by omega⟩)) * Ideal.ofBits .f32 0x3DB504F3#32 := by
  simp only [← pay2_apply]
  unfold_out out0_5
  rw [whole_token, whole_token, whole_mod]
  refine (congrFun (View.canon_unit_zero zero3 _ _) _).trans ?_
  generalize hy : k0_pay2 i x0 x1 x2 = y
  pointwise [k0_pay4, k0_pay3, hy]

theorem out6_apply (j : Fin 256) (n : Fin 512) : out0_6 i x0 x1 x2 x3 x4 (ix3 0 j n)
    = ∑ e : Fin 1024, tok i x0 x1 x2 j e * x3 (ix2 e ⟨512 + n.val, by omega⟩) := by
  simp only [← pay2_apply]
  unfold_out out0_6
  rw [whole_token, whole_token, whole_mod]
  refine (congrFun (View.canon_unit_zero zero3 _ _) _).trans ?_
  generalize hy : k0_pay2 i x0 x1 x2 = y
  pointwise [k0_pay6, k0_pay5, k0_pay3, hy]

theorem out7_apply (j : Fin 256) (n : Fin 1024) : out0_7 i x0 x1 x2 x3 x4 (ix3 0 j n)
    = ∑ e : Fin 1024, tok i x0 x1 x2 j e * x3 (ix2 e ⟨1024 + n.val, by omega⟩) := by
  simp only [← pay2_apply]
  unfold_out out0_7
  rw [whole_token, whole_token, whole_mod]
  refine (congrFun (View.canon_unit_zero zero3 _ _) _).trans ?_
  generalize hy : k0_pay2 i x0 x1 x2 = y
  pointwise [k0_pay7, k0_pay3, hy]

theorem out8_apply (j : Fin 256) (n : Fin 1024) : out0_8 i x0 x1 x2 x3 x4 (ix3 0 j n)
    = ∑ e : Fin 1024, tok i x0 x1 x2 j e * x3 (ix2 e ⟨2048 + n.val, by omega⟩) := by
  simp only [← pay2_apply]
  unfold_out out0_8
  rw [whole_token, whole_token, whole_mod]
  refine (congrFun (View.canon_unit_zero zero3 _ _) _).trans ?_
  generalize hy : k0_pay2 i x0 x1 x2 = y
  pointwise [k0_pay8, k0_pay3, hy]

theorem out9_apply (j : Fin 256) (n : Fin 1024) : out0_9 i x0 x1 x2 x3 x4 (ix3 0 j n)
    = ∑ e : Fin 1024, tok i x0 x1 x2 j e * x3 (ix2 e ⟨3072 + n.val, by omega⟩) := by
  simp only [← pay2_apply]
  unfold_out out0_9
  rw [whole_token, whole_token, whole_mod]
  refine (congrFun (View.canon_unit_zero zero3 _ _) _).trans ?_
  generalize hy : k0_pay2 i x0 x1 x2 = y
  pointwise [k0_pay9, k0_pay3, hy]

theorem out10_apply (j : Fin 256) (n : Fin 1536) : out0_10 i x0 x1 x2 x3 x4 (ix3 0 j n)
    = ∑ e : Fin 1024, tok i x0 x1 x2 j e * x3 (ix2 e ⟨4096 + n.val, by omega⟩) := by
  simp only [← pay2_apply]
  unfold_out out0_10
  rw [whole_token, whole_token, whole_mod]
  refine (congrFun (View.canon_unit_zero zero3 _ _) _).trans ?_
  generalize hy : k0_pay2 i x0 x1 x2 = y
  pointwise [k0_pay10, k0_pay3, hy]

theorem out11_apply (j : Fin 256) (n : Fin 128) : out0_11 i x0 x1 x2 x3 x4 (ix3 0 j n)
    = (∑ e : Fin 1024, tok i x0 x1 x2 j e * x4 (ix2 e n))
      + (∑ e : Fin 1024, (tok i x0 x1 x2 j e - tok i x0 x1 x2 j e) * x4 (ix2 e n))
      + (∑ e : Fin 1024, tok i x0 x1 x2 j e * (x4 (ix2 e n) - x4 (ix2 e n))) := by
  simp only [← pay2_apply]
  unfold_out out0_11
  rw [whole_token, whole_token, whole_mod, whole_gate]
  refine (congrFun (View.canon_unit_zero zero3 _ _) _).trans ?_
  generalize hy : k0_pay2 i x0 x1 x2 = y
  pointwise [k0_pay1, k0_pay11, k0_pay12]

end Cert.ProjectionIdeal.Tile

end
-- ==== Proof.ProjectionArray.lean ====
/-
  The projection's result arrays: at every position the product of the modulated token there with its columns of the
  weights.
-/
module

public import proofs.«01_k».proof.Proof.Gen.ProjectionIdeal.Value
public import proofs.«01_k».proof.Proof.ProjectionTile
public import Idealize.ShloMosaic.Lib.Pipeline.ValueKit
public import Idealize.ShloMosaic.Lib.Claim
public import Idealize.ShloMosaic.Lib.Tactic.CleanTypes

@[expose] public section

set_option maxRecDepth 16384

noncomputable section

namespace Cert.ProjectionIdeal.Array

open Idealize.ShloMosaic Idealize.ShloMosaic.TcCoe Idealize.SL.Sem
open Cert.ProjectionIdeal Cert.ProjectionIdeal.Gen Cert.ProjectionIdeal.Tile
open Cert.Softmax Cert.Projected

/-! ## Which block each window is on -/

theorem idx0 : ∀ t : Fin cfg0.N, (cfg0.win 0).index t = ![t.val / 33, 0, 0] :=
  (by decide +kernel : ∀ t : Fin grid0.N, win0_0.index t = ![t.val / 33, 0, 0])
theorem idx1 : ∀ t : Fin cfg0.N, (cfg0.win 1).index t = ![t.val / 33, t.val % 33 - 1, 0] :=
  (by decide +kernel : ∀ t : Fin grid0.N, win0_1.index t = ![t.val / 33, t.val % 33 - 1, 0])
theorem idx2 : ∀ t : Fin cfg0.N, (cfg0.win 2).index t = ![t.val / 33, min (t.val % 33) 1, 0, 0] :=
  (by decide +kernel : ∀ t : Fin grid0.N, win0_2.index t = ![t.val / 33, min (t.val % 33) 1, 0, 0])
theorem idx3 : ∀ t : Fin cfg0.N, (cfg0.win 3).index t = ![0, 0] :=
  (by decide +kernel : ∀ t : Fin grid0.N, win0_3.index t = ![0, 0])
theorem idx4 : ∀ t : Fin cfg0.N, (cfg0.win 4).index t = ![0, 0] :=
  (by decide +kernel : ∀ t : Fin grid0.N, win0_4.index t = ![0, 0])
theorem idx5 : ∀ t : Fin cfg0.N, (cfg0.win 5).index t = ![t.val / 33, t.val % 33, 0] :=
  (by decide +kernel : ∀ t : Fin grid0.N, win0_5.index t = ![t.val / 33, t.val % 33, 0])
theorem idx6 : ∀ t : Fin cfg0.N, (cfg0.win 6).index t = ![t.val / 33, t.val % 33, 0] :=
  (by decide +kernel : ∀ t : Fin grid0.N, win0_6.index t = ![t.val / 33, t.val % 33, 0])
theorem idx7 : ∀ t : Fin cfg0.N, (cfg0.win 7).index t = ![t.val / 33, t.val % 33, 0] :=
  (by decide +kernel : ∀ t : Fin grid0.N, win0_7.index t = ![t.val / 33, t.val % 33, 0])
theorem idx8 : ∀ t : Fin cfg0.N, (cfg0.win 8).index t = ![t.val / 33, t.val % 33, 0] :=
  (by decide +kernel : ∀ t : Fin grid0.N, win0_8.index t = ![t.val / 33, t.val % 33, 0])
theorem idx9 : ∀ t : Fin cfg0.N, (cfg0.win 9).index t = ![t.val / 33, t.val % 33, 0] :=
  (by decide +kernel : ∀ t : Fin grid0.N, win0_9.index t = ![t.val / 33, t.val % 33, 0])
theorem idx10 : ∀ t : Fin cfg0.N, (cfg0.win 10).index t = ![t.val / 33, t.val % 33, 0] :=
  (by decide +kernel : ∀ t : Fin grid0.N, win0_10.index t = ![t.val / 33, t.val % 33, 0])
theorem idx11 : ∀ t : Fin cfg0.N, (cfg0.win 11).index t = ![t.val / 33, t.val % 33, 0] :=
  (by decide +kernel : ∀ t : Fin grid0.N, win0_11.index t = ![t.val / 33, t.val % 33, 0])

theorem lt_N (t : Fin cfg0.N) : t.val < 66 := lt_of_lt_of_eq t.isLt N_0

theorem step : ∀ t : Fin cfg0.N, (grid0.coords t 1).val = t.val % 33 :=
  (by decide +kernel : ∀ t : Fin grid0.N, (grid0.coords t 1).val = t.val % 33)

variable (m : (ℓ : Loc nD τ sig) → Buf (Elt Ideal) ℓ) (c : Dev nD)

/-- The arguments as functions of their coordinates: the context, the latents, their modulation and the weights. -/
def X (b : Fin 2) (t : Fin 256) (e : Fin 1024) : EReal := m ((c : Thread nD τ).loc main_arg0) (ix3 b t e)
def Y (b : Fin 2) (t : Fin 8192) (e : Fin 1024) : EReal := m ((c : Thread nD τ).loc main_arg1) (ix3 b t e)
def M (b g : Fin 2) (i : Fin 6) (e : Fin 1024) : EReal := m ((c : Thread nD τ).loc main_arg2) (ix4 b g i e)
def W (e : Fin 1024) (n : Fin 5680) : EReal := m ((c : Thread nD τ).loc main_arg3) (ix2 e n)

theorem blk0 (t : Fin cfg0.N) (j : Fin 256) (e : Fin 1024) :
    iblk m c 0 t (ix3 0 j e) = V m c main_arg0 (ix3 (n0 := 2) (n1 := 256) (n2 := 1024) ⟨t.val / 33, by have := lt_N t; omega⟩ j e) := by
  have := lt_N t
  blk_ext [iblk, idx0 t]

theorem blk1 (t : Fin cfg0.N) (j : Fin 256) (e : Fin 1024) :
    iblk m c 1 t (ix3 0 j e) = V m c main_arg1 (ix3 (n0 := 2) (n1 := 8192) (n2 := 1024) ⟨t.val / 33, by have := lt_N t; omega⟩
      ⟨256 * (t.val % 33 - 1) + j.val, by omega⟩ e) := by
  have := lt_N t
  blk_ext [iblk, idx1 t]

theorem blk2 (t : Fin cfg0.N) (i : Fin 6) (e : Fin 1024) :
    iblk m c 2 t (ix4 0 0 i e) = V m c main_arg2 (ix4 (n0 := 2) (n1 := 2) (n2 := 6) (n3 := 1024) ⟨t.val / 33, by have := lt_N t; omega⟩
      ⟨min (t.val % 33) 1, by omega⟩ i e) := by
  have := lt_N t
  blk_ext [iblk, idx2 t]

theorem blk3 (t : Fin cfg0.N) (e : Fin 1024) (n : Fin 5632) :
    iblk m c 3 t (ix2 e n) = V m c main_v3 (ix2 (n0 := 1024) (n1 := 5632) e n) := by
  have := lt_N t
  blk_ext [iblk, idx3 t]

theorem blk4 (t : Fin cfg0.N) (e : Fin 1024) (n : Fin 128) :
    iblk m c 4 t (ix2 e n) = V m c main_v7 (ix2 (n0 := 1024) (n1 := 128) e n) := by
  have := lt_N t
  blk_ext [iblk, idx4 t]

/-- The weights the kernel is given: the wide results' columns side by side, -/
theorem V_wide : V m c main_v3 = (truncf .bf16 (concatenate S1024x5632 1
      [⟨S1024x3072, extractStridedSlice S1024x3072 ![0, 0] (m ((c : Thread nD τ).loc main_arg3)) slices_S1024x5680_S1024x3072_0_0⟩,
       ⟨S1024x2560, extractStridedSlice S1024x2560 ![0, 3088] (m ((c : Thread nD τ).loc main_arg3)) slices_S1024x5680_S1024x2560_0_3088⟩]
      concatenates_S1024x3072_S1024x2560_S1024x5632_d1) bitsLt_bf16_f32 : FVec Ideal S1024x5632 .bf16) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- and the gates' columns, padded. -/
theorem V_gate : V m c main_v7 = (pad S1024x128 ![0, 0] ![0, 80] ![0, 0] (concatenate S1024x48 1
      [⟨S1024x16, extractStridedSlice S1024x16 ![0, 3072] (m ((c : Thread nD τ).loc main_arg3)) slices_S1024x5680_S1024x16_0_3072⟩,
       ⟨S1024x32, extractStridedSlice S1024x32 ![0, 5648] (m ((c : Thread nD τ).loc main_arg3)) slices_S1024x5680_S1024x32_0_5648⟩]
      concatenates_S1024x16_S1024x32_S1024x48_d1) (sitofp .f32 (constantI S_ 32 0#32)) pads_S1024x48_S1024x128_000_0800 h_S_ : FVec Ideal S1024x128 .f32) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> (try dsimp only [Matrix.cons_val]) <;> (try after_results_simp) <;> rfl

/-- The wide weights leave out the sixteen columns of the gates. -/
theorem entry_wide (e : Fin 1024) (n : Fin 5632) (q : Fin 5680) (h : q.val = if n.val < 3072 then n.val else n.val + 16) :
    V m c main_v3 (ix2 e n) = W m c e q := by
  rw [V_wide]
  pointwise [W]
  split
  · rename_i h'
    rw [if_pos h'] at h
    exact congrArg (fun k => m ((c : Thread nD τ).loc main_arg3) (ix2 e k)) (Fin.ext h.symm)
  · rename_i h'
    rw [if_neg h'] at h
    exact congrArg (fun k => m ((c : Thread nD τ).loc main_arg3) (ix2 e k)) (Fin.ext (by show 3088 + (n.val - 3072) = q.val; omega))

/-- The gates' weights. -/
theorem entry_gate (e : Fin 1024) (n : Fin 128) :
    V m c main_v7 (ix2 e n) = if n.val < 16 then W m c e ⟨3072 + n.val, by omega⟩
      else if h : n.val < 48 then W m c e ⟨5632 + n.val, by omega⟩ else (0 : EReal) := by
  have z : (FloatOps.sitofp FTy.f32 (0 : BitVec 32) : Ideal .f32) = (0 : EReal) := by
    show (((0 : BitVec 32).toInt : ℝ) : EReal) = 0
    simp
  rw [V_gate]
  pointwise [W]
  by_cases h1 : n.val < 16
  · rw [dif_pos (by omega), dif_pos h1, if_pos h1]
  · rw [if_neg h1]
    by_cases h2 : n.val < 48
    · rw [dif_pos h2, dif_pos h2, dif_neg h1]
      exact congrArg (fun k => m ((c : Thread nD τ).loc main_arg3) (ix2 e k)) (Fin.ext (by show 5648 + (n.val - 16) = 5632 + n.val; omega))
    · rw [dif_neg h2, dif_neg h2]
      exact z

/-- The point's tokens. -/
theorem tokens (t : Fin cfg0.N) (j : Fin 256) (e : Fin 1024) (b : Fin 2) (s : Fin 8448) (hb : b.val = t.val / 33)
    (hs : s.val = 256 * (t.val % 33) + j.val) :
    tok (grid0.coords t) (iblk m c 0 t) (iblk m c 1 t) (iblk m c 2 t) j e = token (X m c) (Y m c) (M m c) b s e := by
  have hj := j.isLt
  have ht := lt_N t
  unfold tok token shifted
  have eb : (⟨t.val / 33, by omega⟩ : Fin 2) = b := Fin.ext hb.symm
  by_cases h : t.val % 33 = 0
  · have g : (⟨min (t.val % 33) 1, by omega⟩ : Fin 2) = 0 := Fin.ext (by show min (t.val % 33) 1 = 0; omega)
    have hs' : s.val < 256 := by omega
    have e2 : (⟨s.val, hs'⟩ : Fin 256) = j := Fin.ext (by show s.val = j.val; omega)
    rw [if_pos (by rw [step]; omega), dif_pos hs', blk0, blk2, blk2, V_main_arg0, V_main_arg2, g, eb, e2]
    rfl
  · have g : (⟨min (t.val % 33) 1, by omega⟩ : Fin 2) = 1 := Fin.ext (by show min (t.val % 33) 1 = 1; omega)
    have hs' : ¬ s.val < 256 := by omega
    have e2 : (⟨256 * (t.val % 33 - 1) + j.val, by omega⟩ : Fin 8192) = ⟨s.val - 256, by omega⟩ :=
      Fin.ext (by show 256 * (t.val % 33 - 1) + j.val = s.val - 256; omega)
    rw [if_neg (by rw [step]; omega), dif_neg hs', blk1, blk2, blk2, V_main_arg1, V_main_arg2, g, eb, e2]
    rfl

/-- A product of the point's tokens with a column of the wide weights. -/
theorem column (t : Fin cfg0.N) (j : Fin 256) (n : Fin 5632) (b : Fin 2) (s : Fin 8448) (q : Fin 5680) (hb : b.val = t.val / 33)
    (hs : s.val = 256 * (t.val % 33) + j.val) (hq : q.val = if n.val < 3072 then n.val else n.val + 16) :
    (∑ e : Fin 1024, tok (grid0.coords t) (iblk m c 0 t) (iblk m c 1 t) (iblk m c 2 t) j e * (iblk m c 3 t (ix2 e n) : EReal))
      = proj (X m c) (Y m c) (M m c) (W m c) b s q := by
  unfold proj
  refine Finset.sum_congr rfl fun e _ => ?_
  rw [tokens m c t j e b s hb hs, blk3, entry_wide m c e n q hq]

/-- A column of the gates. -/
theorem gates (hX : ∀ b t e, IsReal (X m c b t e)) (hY : ∀ b t e, IsReal (Y m c b t e)) (hM : ∀ b g (k : Fin 2) e, IsReal (M m c b g ⟨k.val, by omega⟩ e))
    (hU : ∀ e (n : Fin 16), IsReal (W m c e ⟨3072 + n.val, by omega⟩)) (hV : ∀ e (n : Fin 32), IsReal (W m c e ⟨5648 + n.val, by omega⟩)) (t : Fin cfg0.N) (j : Fin 256) (n : Fin 128) (b : Fin 2) (s : Fin 8448) (hb : b.val = t.val / 33)
    (hs : s.val = 256 * (t.val % 33) + j.val) :
    out0_11 (grid0.coords t) (iblk m c 0 t) (iblk m c 1 t) (iblk m c 2 t) (iblk m c 3 t) (iblk m c 4 t) (ix3 0 j n)
      = gate (X m c) (Y m c) (M m c) (W m c) b s n := by
  have z : IsReal (0 : EReal) := ⟨0, EReal.coe_zero.symm⟩
  have hg : ∀ e, IsReal (if n.val < 16 then W m c e ⟨3072 + n.val, by omega⟩
      else if h : n.val < 48 then W m c e ⟨5632 + n.val, by omega⟩ else (0 : EReal)) := by
    intro e
    split
    · rename_i h
      exact hU e ⟨n.val, h⟩
    · split
      · rename_i h h'
        have q : (⟨5632 + n.val, by omega⟩ : Fin 5680) = ⟨5648 + (n.val - 16), by omega⟩ := Fin.ext (by show 5632 + n.val = 5648 + (n.val - 16); omega)
        rw [q]
        exact hV e ⟨n.val - 16, by omega⟩
      · exact z
  have hv : ∀ e : Fin 1024, iblk m c 4 t (ix2 e n) = if n.val < 16 then W m c e ⟨3072 + n.val, by omega⟩
      else if h : n.val < 48 then W m c e ⟨5632 + n.val, by omega⟩ else (0 : EReal) := fun e => (blk4 m c t e n).trans (entry_gate m c e n)
  rw [out11_apply]
  simp only [tokens m c t j _ b s hb hs, hv]
  refine (parts_sum (fun e => token (X m c) (Y m c) (M m c) b s e) _ (fun e => token_isReal _ _ _ hX hY hM b s e) hg).trans ?_
  unfold gate proj
  split
  · rfl
  · split
    · rfl
    · simp only [mul_zero, Finset.sum_const_zero]

/-! ## The arrays -/

theorem point5 (t : Fin cfg0.N) (j : Fin 256) (n : Fin 512) (b : Fin 2) (s : Fin 8448) (hb : b.val = t.val / 33)
    (hs : s.val = 256 * (t.val % 33) + j.val) :
    out0_5 (grid0.coords t) (iblk m c 0 t) (iblk m c 1 t) (iblk m c 2 t) (iblk m c 3 t) (iblk m c 4 t) (ix3 0 j n)
      = query (X m c) (Y m c) (M m c) (W m c) b s n :=
  (out5_apply _ _ _ _ _ _ j n).trans
    (congrArg (fun z : EReal => z * Ideal.ofBits .f32 0x3DB504F3#32) (column m c t j ⟨0 + n.val, by omega⟩ b s ⟨0 + n.val, by omega⟩ hb hs (by simp only []; split <;> omega)))

theorem block5 (t : Fin cfg0.N) (y : S1x256x512.Idx) (i : S2x8448x512.Idx) (h0 : (i 0).val = t.val / 33)
    (h1 : (i 1).val = 256 * (t.val % 33) + (y 1).val) (h2 : (i 2).val = (y 2).val) :
    out0_5 (grid0.coords t) (iblk m c 0 t) (iblk m c 1 t) (iblk m c 2 t) (iblk m c 3 t) (iblk m c 4 t) y
      = query (X m c) (Y m c) (M m c) (W m c) (i 0) (i 1) (i 2) := by
  obtain ⟨a, j, n, rfl⟩ : ∃ a j n, y = ix3 (n0 := 1) (n1 := 256) (n2 := 512) a j n := ⟨y 0, y 1, y 2, by funext q; fin_cases q <;> rfl⟩
  obtain rfl : a = 0 := Fin.fin_one_eq_zero a
  have e2 : (i 2 : Fin 512) = n := Fin.ext h2
  rw [e2]
  exact point5 m c t j n (i 0) (i 1) h0 h1

/-- The queries, scaled. -/
theorem final5 : (dats m 0 c).arrAt 5 cfg0.N
    = (fun i => query (X m c) (Y m c) (M m c) (W m c) (i 0) (i 1) (i 2) : Vec Ideal S2x8448x512 .bf16) := by
  refine (dats m 0 c).arrAt_eq_of_covers 5 _ (by decide +kernel) fun t hf y => ?_
  blk_simp
  rw [after0_5]
  refine block5 m c t _ _ ?_ ?_ ?_ <;> blk_simp [idx5 t] <;> omega

theorem point6 (t : Fin cfg0.N) (j : Fin 256) (n : Fin 512) (b : Fin 2) (s : Fin 8448) (hb : b.val = t.val / 33)
    (hs : s.val = 256 * (t.val % 33) + j.val) :
    out0_6 (grid0.coords t) (iblk m c 0 t) (iblk m c 1 t) (iblk m c 2 t) (iblk m c 3 t) (iblk m c 4 t) (ix3 0 j n)
      = cols (X m c) (Y m c) (M m c) (W m c) 512 (k := 512) (by norm_num) b s n :=
  (out6_apply _ _ _ _ _ _ j n).trans
    (column m c t j ⟨512 + n.val, by omega⟩ b s ⟨512 + n.val, by omega⟩ hb hs (by simp only []; split <;> omega))

theorem block6 (t : Fin cfg0.N) (y : S1x256x512.Idx) (i : S2x8448x512.Idx) (h0 : (i 0).val = t.val / 33)
    (h1 : (i 1).val = 256 * (t.val % 33) + (y 1).val) (h2 : (i 2).val = (y 2).val) :
    out0_6 (grid0.coords t) (iblk m c 0 t) (iblk m c 1 t) (iblk m c 2 t) (iblk m c 3 t) (iblk m c 4 t) y
      = cols (X m c) (Y m c) (M m c) (W m c) 512 (k := 512) (by norm_num) (i 0) (i 1) (i 2) := by
  obtain ⟨a, j, n, rfl⟩ : ∃ a j n, y = ix3 (n0 := 1) (n1 := 256) (n2 := 512) a j n := ⟨y 0, y 1, y 2, by funext q; fin_cases q <;> rfl⟩
  obtain rfl : a = 0 := Fin.fin_one_eq_zero a
  have e2 : (i 2 : Fin 512) = n := Fin.ext h2
  rw [e2]
  exact point6 m c t j n (i 0) (i 1) h0 h1

/-- The keys. -/
theorem final6 : (dats m 0 c).arrAt 6 cfg0.N
    = (fun i => cols (X m c) (Y m c) (M m c) (W m c) 512 (k := 512) (by norm_num) (i 0) (i 1) (i 2) : Vec Ideal S2x8448x512 .bf16) := by
  refine (dats m 0 c).arrAt_eq_of_covers 6 _ (by decide +kernel) fun t hf y => ?_
  blk_simp
  rw [after0_6]
  refine block6 m c t _ _ ?_ ?_ ?_ <;> blk_simp [idx6 t] <;> omega

theorem point7 (t : Fin cfg0.N) (j : Fin 256) (n : Fin 1024) (b : Fin 2) (s : Fin 8448) (hb : b.val = t.val / 33)
    (hs : s.val = 256 * (t.val % 33) + j.val) :
    out0_7 (grid0.coords t) (iblk m c 0 t) (iblk m c 1 t) (iblk m c 2 t) (iblk m c 3 t) (iblk m c 4 t) (ix3 0 j n)
      = cols (X m c) (Y m c) (M m c) (W m c) 1024 (k := 1024) (by norm_num) b s n :=
  (out7_apply _ _ _ _ _ _ j n).trans
    (column m c t j ⟨1024 + n.val, by omega⟩ b s ⟨1024 + n.val, by omega⟩ hb hs (by simp only []; split <;> omega))

theorem block7 (t : Fin cfg0.N) (y : S1x256x1024.Idx) (i : S2x8448x1024.Idx) (h0 : (i 0).val = t.val / 33)
    (h1 : (i 1).val = 256 * (t.val % 33) + (y 1).val) (h2 : (i 2).val = (y 2).val) :
    out0_7 (grid0.coords t) (iblk m c 0 t) (iblk m c 1 t) (iblk m c 2 t) (iblk m c 3 t) (iblk m c 4 t) y
      = cols (X m c) (Y m c) (M m c) (W m c) 1024 (k := 1024) (by norm_num) (i 0) (i 1) (i 2) := by
  obtain ⟨a, j, n, rfl⟩ : ∃ a j n, y = ix3 (n0 := 1) (n1 := 256) (n2 := 1024) a j n := ⟨y 0, y 1, y 2, by funext q; fin_cases q <;> rfl⟩
  obtain rfl : a = 0 := Fin.fin_one_eq_zero a
  have e2 : (i 2 : Fin 1024) = n := Fin.ext h2
  rw [e2]
  exact point7 m c t j n (i 0) (i 1) h0 h1

/-- The values. -/
theorem final7 : (dats m 0 c).arrAt 7 cfg0.N
    = (fun i => cols (X m c) (Y m c) (M m c) (W m c) 1024 (k := 1024) (by norm_num) (i 0) (i 1) (i 2) : Vec Ideal S2x8448x1024 .bf16) := by
  refine (dats m 0 c).arrAt_eq_of_covers 7 _ (by decide +kernel) fun t hf y => ?_
  blk_simp
  rw [after0_7]
  refine block7 m c t _ _ ?_ ?_ ?_ <;> blk_simp [idx7 t] <;> omega

theorem point8 (t : Fin cfg0.N) (j : Fin 256) (n : Fin 1024) (b : Fin 2) (s : Fin 8448) (hb : b.val = t.val / 33)
    (hs : s.val = 256 * (t.val % 33) + j.val) :
    out0_8 (grid0.coords t) (iblk m c 0 t) (iblk m c 1 t) (iblk m c 2 t) (iblk m c 3 t) (iblk m c 4 t) (ix3 0 j n)
      = cols (X m c) (Y m c) (M m c) (W m c) 2048 (k := 1024) (by norm_num) b s n :=
  (out8_apply _ _ _ _ _ _ j n).trans
    (column m c t j ⟨2048 + n.val, by omega⟩ b s ⟨2048 + n.val, by omega⟩ hb hs (by simp only []; split <;> omega))

theorem block8 (t : Fin cfg0.N) (y : S1x256x1024.Idx) (i : S2x8448x1024.Idx) (h0 : (i 0).val = t.val / 33)
    (h1 : (i 1).val = 256 * (t.val % 33) + (y 1).val) (h2 : (i 2).val = (y 2).val) :
    out0_8 (grid0.coords t) (iblk m c 0 t) (iblk m c 1 t) (iblk m c 2 t) (iblk m c 3 t) (iblk m c 4 t) y
      = cols (X m c) (Y m c) (M m c) (W m c) 2048 (k := 1024) (by norm_num) (i 0) (i 1) (i 2) := by
  obtain ⟨a, j, n, rfl⟩ : ∃ a j n, y = ix3 (n0 := 1) (n1 := 256) (n2 := 1024) a j n := ⟨y 0, y 1, y 2, by funext q; fin_cases q <;> rfl⟩
  obtain rfl : a = 0 := Fin.fin_one_eq_zero a
  have e2 : (i 2 : Fin 1024) = n := Fin.ext h2
  rw [e2]
  exact point8 m c t j n (i 0) (i 1) h0 h1

/-- The output gate. -/
theorem final8 : (dats m 0 c).arrAt 8 cfg0.N
    = (fun i => cols (X m c) (Y m c) (M m c) (W m c) 2048 (k := 1024) (by norm_num) (i 0) (i 1) (i 2) : Vec Ideal S2x8448x1024 .f32) := by
  refine (dats m 0 c).arrAt_eq_of_covers 8 _ (by decide +kernel) fun t hf y => ?_
  blk_simp
  rw [after0_8]
  refine block8 m c t _ _ ?_ ?_ ?_ <;> blk_simp [idx8 t] <;> omega

theorem point9 (t : Fin cfg0.N) (j : Fin 256) (n : Fin 1024) (b : Fin 2) (s : Fin 8448) (hb : b.val = t.val / 33)
    (hs : s.val = 256 * (t.val % 33) + j.val) :
    out0_9 (grid0.coords t) (iblk m c 0 t) (iblk m c 1 t) (iblk m c 2 t) (iblk m c 3 t) (iblk m c 4 t) (ix3 0 j n)
      = cols (X m c) (Y m c) (M m c) (W m c) 3088 (k := 1024) (by norm_num) b s n :=
  (out9_apply _ _ _ _ _ _ j n).trans
    (column m c t j ⟨3072 + n.val, by omega⟩ b s ⟨3088 + n.val, by omega⟩ hb hs (by simp only []; split <;> omega))

theorem block9 (t : Fin cfg0.N) (y : S1x256x1024.Idx) (i : S2x8448x1024.Idx) (h0 : (i 0).val = t.val / 33)
    (h1 : (i 1).val = 256 * (t.val % 33) + (y 1).val) (h2 : (i 2).val = (y 2).val) :
    out0_9 (grid0.coords t) (iblk m c 0 t) (iblk m c 1 t) (iblk m c 2 t) (iblk m c 3 t) (iblk m c 4 t) y
      = cols (X m c) (Y m c) (M m c) (W m c) 3088 (k := 1024) (by norm_num) (i 0) (i 1) (i 2) := by
  obtain ⟨a, j, n, rfl⟩ : ∃ a j n, y = ix3 (n0 := 1) (n1 := 256) (n2 := 1024) a j n := ⟨y 0, y 1, y 2, by funext q; fin_cases q <;> rfl⟩
  obtain rfl : a = 0 := Fin.fin_one_eq_zero a
  have e2 : (i 2 : Fin 1024) = n := Fin.ext h2
  rw [e2]
  exact point9 m c t j n (i 0) (i 1) h0 h1

/-- The second mixer's gate. -/
theorem final9 : (dats m 0 c).arrAt 9 cfg0.N
    = (fun i => cols (X m c) (Y m c) (M m c) (W m c) 3088 (k := 1024) (by norm_num) (i 0) (i 1) (i 2) : Vec Ideal S2x8448x1024 .f32) := by
  refine (dats m 0 c).arrAt_eq_of_covers 9 _ (by decide +kernel) fun t hf y => ?_
  blk_simp
  rw [after0_9]
  refine block9 m c t _ _ ?_ ?_ ?_ <;> blk_simp [idx9 t] <;> omega

theorem point10 (t : Fin cfg0.N) (j : Fin 256) (n : Fin 1536) (b : Fin 2) (s : Fin 8448) (hb : b.val = t.val / 33)
    (hs : s.val = 256 * (t.val % 33) + j.val) :
    out0_10 (grid0.coords t) (iblk m c 0 t) (iblk m c 1 t) (iblk m c 2 t) (iblk m c 3 t) (iblk m c 4 t) (ix3 0 j n)
      = cols (X m c) (Y m c) (M m c) (W m c) 4112 (k := 1536) (by norm_num) b s n :=
  (out10_apply _ _ _ _ _ _ j n).trans
    (column m c t j ⟨4096 + n.val, by omega⟩ b s ⟨4112 + n.val, by omega⟩ hb hs (by simp only []; split <;> omega))

theorem block10 (t : Fin cfg0.N) (y : S1x256x1536.Idx) (i : S2x8448x1536.Idx) (h0 : (i 0).val = t.val / 33)
    (h1 : (i 1).val = 256 * (t.val % 33) + (y 1).val) (h2 : (i 2).val = (y 2).val) :
    out0_10 (grid0.coords t) (iblk m c 0 t) (iblk m c 1 t) (iblk m c 2 t) (iblk m c 3 t) (iblk m c 4 t) y
      = cols (X m c) (Y m c) (M m c) (W m c) 4112 (k := 1536) (by norm_num) (i 0) (i 1) (i 2) := by
  obtain ⟨a, j, n, rfl⟩ : ∃ a j n, y = ix3 (n0 := 1) (n1 := 256) (n2 := 1536) a j n := ⟨y 0, y 1, y 2, by funext q; fin_cases q <;> rfl⟩
  obtain rfl : a = 0 := Fin.fin_one_eq_zero a
  have e2 : (i 2 : Fin 1536) = n := Fin.ext h2
  rw [e2]
  exact point10 m c t j n (i 0) (i 1) h0 h1

/-- The second mixer's inputs. -/
theorem final10 : (dats m 0 c).arrAt 10 cfg0.N
    = (fun i => cols (X m c) (Y m c) (M m c) (W m c) 4112 (k := 1536) (by norm_num) (i 0) (i 1) (i 2) : Vec Ideal S2x8448x1536 .f32) := by
  refine (dats m 0 c).arrAt_eq_of_covers 10 _ (by decide +kernel) fun t hf y => ?_
  blk_simp
  rw [after0_10]
  refine block10 m c t _ _ ?_ ?_ ?_ <;> blk_simp [idx10 t] <;> omega

theorem final11 (hX : ∀ b t e, IsReal (X m c b t e)) (hY : ∀ b t e, IsReal (Y m c b t e)) (hM : ∀ b g (k : Fin 2) e, IsReal (M m c b g ⟨k.val, by omega⟩ e))
    (hU : ∀ e (n : Fin 16), IsReal (W m c e ⟨3072 + n.val, by omega⟩)) (hV : ∀ e (n : Fin 32), IsReal (W m c e ⟨5648 + n.val, by omega⟩)) : (dats m 0 c).arrAt 11 cfg0.N
    = (fun i => gate (X m c) (Y m c) (M m c) (W m c) (i 0) (i 1) (i 2) : Vec Ideal S2x8448x128 .f32) := by
  have block : ∀ (t : Fin cfg0.N) (y : S1x256x128.Idx) (i : S2x8448x128.Idx) (_ : (i 0).val = t.val / 33)
      (_ : (i 1).val = 256 * (t.val % 33) + (y 1).val) (_ : (i 2).val = (y 2).val),
      out0_11 (grid0.coords t) (iblk m c 0 t) (iblk m c 1 t) (iblk m c 2 t) (iblk m c 3 t) (iblk m c 4 t) y
        = gate (X m c) (Y m c) (M m c) (W m c) (i 0) (i 1) (i 2) := by
    intro t y i h0 h1 h2
    obtain ⟨a, j, n, rfl⟩ : ∃ a j n, y = ix3 (n0 := 1) (n1 := 256) (n2 := 128) a j n := ⟨y 0, y 1, y 2, by funext q; fin_cases q <;> rfl⟩
    obtain rfl : a = 0 := Fin.fin_one_eq_zero a
    have e2 : (i 2 : Fin 128) = n := Fin.ext h2
    rw [e2]
    exact gates m c hX hY hM hU hV t j _ (i 0) (i 1) h0 h1
  refine (dats m 0 c).arrAt_eq_of_covers 11 _ (by decide +kernel) fun t hf y => ?_
  blk_simp
  rw [after0_11]
  refine block t _ _ ?_ ?_ ?_ <;> blk_simp [idx11 t] <;> omega

end Cert.ProjectionIdeal.Array

end
-- ==== Proof.ProjectionReference.lean ====
/-
  What the projection's reference computes, at every position: the products of the modulated token there with the
  columns of each result.
-/
module

public import proofs.«01_k».proof.Proof.Gen.ProjectionReferenceIdeal.Run
public import proofs.«01_k».proof.Proof.Projected
public import Idealize.ShloMosaic.Lib.Pointwise
public import Idealize.ShloMosaic.Lib.Tactic.CleanTypes

@[expose] public section

set_option maxRecDepth 16384

noncomputable section

namespace Cert.ProjectionReferenceIdeal.Array

open Idealize.ShloMosaic Idealize.ShloMosaic.TcCoe Idealize.SL.Sem
open Cert.ProjectionReferenceIdeal Cert.ProjectionReferenceIdeal.Gen
open Cert.Softmax Cert.Projected

section Any

variable {F : FTy → Type} [FloatOps F]

/-- The modulated tokens, context first. -/
def hidden (x : FVec F S2x256x1024 .f32) (y : FVec F S2x8192x1024 .f32) (md : FVec F S2x2x6x1024 .f32) : FVec F S2x8448x1024 .f32 :=
  concatenate S2x8448x1024 1
    [⟨S2x256x1024, addf
      (mulf x (broadcastInDim S2x256x1024 ![0, 1, 2] bcast_S2x1x1024_S2x256x1024_0_1_2
        (addf (broadcastInDim S2x1x1024 ![] bcast_S_S2x1x1024 (constant S_ .f32 0x3F800000#32))
          (shapeCast _ (extractStridedSlice S2x1x1x1024 ![0, 0, 1, 0] md slices_S2x2x6x1024_S2x1x1x1024_0_0_1_0) shapeCasts_S2x1x1x1024_S2x1x1024))))
      (broadcastInDim S2x256x1024 ![0, 1, 2] bcast_S2x1x1024_S2x256x1024_0_1_2
        (shapeCast _ (extractStridedSlice S2x1x1x1024 ![0, 0, 0, 0] md slices_S2x2x6x1024_S2x1x1x1024_0_0_0_0) shapeCasts_S2x1x1x1024_S2x1x1024))⟩,
     ⟨S2x8192x1024, addf
      (mulf y (broadcastInDim S2x8192x1024 ![0, 1, 2] bcast_S2x1x1024_S2x8192x1024_0_1_2
        (addf (broadcastInDim S2x1x1024 ![] bcast_S_S2x1x1024 (constant S_ .f32 0x3F800000#32))
          (shapeCast _ (extractStridedSlice S2x1x1x1024 ![0, 1, 1, 0] md slices_S2x2x6x1024_S2x1x1x1024_0_1_1_0) shapeCasts_S2x1x1x1024_S2x1x1024))))
      (broadcastInDim S2x8192x1024 ![0, 1, 2] bcast_S2x1x1024_S2x8192x1024_0_1_2
        (shapeCast _ (extractStridedSlice S2x1x1x1024 ![0, 1, 0, 0] md slices_S2x2x6x1024_S2x1x1x1024_0_1_0_0) shapeCasts_S2x1x1x1024_S2x1x1024))⟩]
    concatenates_S2x256x1024_S2x8192x1024_S2x8448x1024_d1

/-- Their product with all the weights. -/
def all (h : FVec F S2x8448x1024 .f32) (w : FVec F S1024x5680 .f32) : FVec F S2x8448x5680 .f32 :=
  Host.dotGeneral dot_S2x8448x1024_S1024x5680_S2x8448x5680_2_0_01_1_n_n none h w

/-- The results, each a part of the product's columns. -/
def queries (p : FVec F S2x8448x5680 .f32) : FVec F S2x8448x512 .bf16 :=
  truncf .bf16 (mulf (extractStridedSlice S2x8448x512 ![0, 0, 0] p slices_S2x8448x5680_S2x8448x512_0_0_0)
    (broadcastInDim S2x8448x512 ![] bcast_S_S2x8448x512 (constant S_ .f32 0x3DB504F3#32))) bitsLt_bf16_f32
def keys (p : FVec F S2x8448x5680 .f32) : FVec F S2x8448x512 .bf16 :=
  truncf .bf16 (extractStridedSlice S2x8448x512 ![0, 0, 512] p slices_S2x8448x5680_S2x8448x512_0_0_512) bitsLt_bf16_f32
def values (p : FVec F S2x8448x5680 .f32) : FVec F S2x8448x1024 .bf16 :=
  truncf .bf16 (extractStridedSlice S2x8448x1024 ![0, 0, 1024] p slices_S2x8448x5680_S2x8448x1024_0_0_1024) bitsLt_bf16_f32
def output (p : FVec F S2x8448x5680 .f32) : FVec F S2x8448x1024 .f32 :=
  extractStridedSlice S2x8448x1024 ![0, 0, 2048] p slices_S2x8448x5680_S2x8448x1024_0_0_2048
def gateZ (p : FVec F S2x8448x5680 .f32) : FVec F S2x8448x1024 .f32 :=
  extractStridedSlice S2x8448x1024 ![0, 0, 3088] p slices_S2x8448x5680_S2x8448x1024_0_0_3088
def inputs (p : FVec F S2x8448x5680 .f32) : FVec F S2x8448x1536 .f32 :=
  extractStridedSlice S2x8448x1536 ![0, 0, 4112] p slices_S2x8448x5680_S2x8448x1536_0_0_4112
def small (p : FVec F S2x8448x5680 .f32) : FVec F S2x8448x128 .f32 :=
  pad S2x8448x128 ![0, 0, 0] ![0, 0, 80] ![0, 0, 0]
    (concatenate S2x8448x48 2
      [⟨S2x8448x8, extractStridedSlice S2x8448x8 ![0, 0, 3072] p slices_S2x8448x5680_S2x8448x8_0_0_3072⟩,
       ⟨S2x8448x8, extractStridedSlice S2x8448x8 ![0, 0, 3080] p slices_S2x8448x5680_S2x8448x8_0_0_3080⟩,
       ⟨S2x8448x32, extractStridedSlice S2x8448x32 ![0, 0, 5648] p slices_S2x8448x5680_S2x8448x32_0_0_5648⟩]
      concatenates_S2x8448x8_S2x8448x8_S2x8448x32_S2x8448x48_d2)
    (sitofp .f32 (constantI S_ 32 0#32)) pads_S2x8448x48_S2x8448x128_000_000_0800 h_S_

/-- The product of the arguments. -/
abbrev product (m : (ℓ : Loc nD τ sig) → Buf (Elt F) ℓ) (c : Dev nD) : FVec F S2x8448x5680 .f32 :=
  all (hidden (m ((c.tc : Thread nD τ).loc main_arg0)) (m ((c.tc : Thread nD τ).loc main_arg1)) (m ((c.tc : Thread nD τ).loc main_arg2)))
    (m ((c.tc : Thread nD τ).loc main_arg3))

/-- The reference's run, its results by these steps. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = queries (product m c)
      ∧ r.2.mem ((c.tc : Thread nD τ).loc main_v36) = keys (product m c)
      ∧ r.2.mem ((c.tc : Thread nD τ).loc main_v37) = values (product m c)
      ∧ r.2.mem ((c.tc : Thread nD τ).loc main_v25) = output (product m c)
      ∧ r.2.mem ((c.tc : Thread nD τ).loc main_v28) = gateZ (product m c)
      ∧ r.2.mem ((c.tc : Thread nD τ).loc main_v29) = inputs (product m c)
      ∧ r.2.mem ((c.tc : Thread nD τ).loc main_v34) = small (product m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6, hr⟩ := h c
    exact ⟨h0.trans rfl, h1.trans rfl, h2.trans rfl, h3.trans rfl, h4.trans rfl, h5.trans rfl, h6.trans rfl, hr⟩)
    (Cert.ProjectionReferenceIdeal.Value.run m ρ)

end Any

variable (x : FVec Ideal S2x256x1024 .f32) (y : FVec Ideal S2x8192x1024 .f32) (md : FVec Ideal S2x2x6x1024 .f32) (w : FVec Ideal S1024x5680 .f32)

/-- The arguments as functions of their coordinates. -/
def X (b : Fin 2) (t : Fin 256) (e : Fin 1024) : EReal := x (ix3 b t e)
def Y (b : Fin 2) (t : Fin 8192) (e : Fin 1024) : EReal := y (ix3 b t e)
def M (b g : Fin 2) (i : Fin 6) (e : Fin 1024) : EReal := md (ix4 b g i e)
def W (e : Fin 1024) (n : Fin 5680) : EReal := w (ix2 e n)

theorem hidden_apply (b : Fin 2) (t : Fin 8448) (e : Fin 1024) :
    hidden x y md (ix3 b t e) = token (X x) (Y y) (M md) b t e := by
  pointwise [hidden]
  unfold token shifted X Y M
  split <;> rfl

theorem all_apply (b : Fin 2) (t : Fin 8448) (n : Fin 5680) :
    all (hidden x y md) w (ix3 b t n) = proj (X x) (Y y) (M md) (W w) b t n := by
  unfold proj W
  simp only [← hidden_apply]
  generalize hidden x y md = h
  pointwise [all]

theorem queries_apply (b : Fin 2) (t : Fin 8448) (n : Fin 512) :
    queries (all (hidden x y md) w) (ix3 b t n) = query (X x) (Y y) (M md) (W w) b t n := by
  unfold query cols
  rw [← all_apply]
  generalize all (hidden x y md) w = p
  pointwise [queries]

theorem keys_apply (b : Fin 2) (t : Fin 8448) (n : Fin 512) :
    keys (all (hidden x y md) w) (ix3 b t n) = cols (X x) (Y y) (M md) (W w) 512 (by norm_num) b t n := by
  unfold cols
  rw [← all_apply]
  generalize all (hidden x y md) w = p
  pointwise [keys]

theorem values_apply (b : Fin 2) (t : Fin 8448) (n : Fin 1024) :
    values (all (hidden x y md) w) (ix3 b t n) = cols (X x) (Y y) (M md) (W w) 1024 (by norm_num) b t n := by
  unfold cols
  rw [← all_apply]
  generalize all (hidden x y md) w = p
  pointwise [values]

theorem output_apply (b : Fin 2) (t : Fin 8448) (n : Fin 1024) :
    output (all (hidden x y md) w) (ix3 b t n) = cols (X x) (Y y) (M md) (W w) 2048 (by norm_num) b t n := by
  unfold cols
  rw [← all_apply]
  generalize all (hidden x y md) w = p
  pointwise [output]

theorem gateZ_apply (b : Fin 2) (t : Fin 8448) (n : Fin 1024) :
    gateZ (all (hidden x y md) w) (ix3 b t n) = cols (X x) (Y y) (M md) (W w) 3088 (by norm_num) b t n := by
  unfold cols
  rw [← all_apply]
  generalize all (hidden x y md) w = p
  pointwise [gateZ]

theorem inputs_apply (b : Fin 2) (t : Fin 8448) (n : Fin 1536) :
    inputs (all (hidden x y md) w) (ix3 b t n) = cols (X x) (Y y) (M md) (W w) 4112 (by norm_num) b t n := by
  unfold cols
  rw [← all_apply]
  generalize all (hidden x y md) w = p
  pointwise [inputs]

theorem small_apply (b : Fin 2) (t : Fin 8448) (n : Fin 128) :
    small (all (hidden x y md) w) (ix3 b t n) = gate (X x) (Y y) (M md) (W w) b t n := by
  have z : (FloatOps.sitofp FTy.f32 (0 : BitVec 32) : Ideal .f32) = (0 : EReal) := by
    show (((0 : BitVec 32).toInt : ℝ) : EReal) = 0
    simp
  unfold gate
  simp only [← all_apply]
  generalize all (hidden x y md) w = p
  pointwise [small]
  by_cases h1 : n.val < 16
  · rw [dif_pos (by omega), if_pos h1]
    by_cases h2 : n.val < 8
    · rw [dif_pos h2]
    · rw [dif_neg h2, dif_pos (by omega)]
      exact congrArg (fun k => p (ix3 b t k)) (Fin.ext (by show 3080 + (n.val - 8) = 3072 + n.val; omega))
  · rw [if_neg h1]
    by_cases h2 : n.val < 48
    · rw [dif_pos h2, dif_neg (by omega), dif_neg (by omega), dif_pos h2]
      exact congrArg (fun k => p (ix3 b t k)) (Fin.ext (by show 5648 + (n.val - 8 - 8) = 5632 + n.val; omega))
    · rw [dif_neg h2, dif_neg h2]
      exact z

end Cert.ProjectionReferenceIdeal.Array

end
-- ==== Proof.ExpertsKit.lean ====
/-
  The experts' launch: the tables and the blocks the pipeline reads, and the memrefs the body is called with.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ)

/-- A core's buffers when the region is entered: as launched. -/
abbrev V (c : Dev nD) (b : Ref sig .tc) : Buf (Elt F) ((c : Thread nD τ).loc b) := m ((c : Thread nD τ).loc b)

set_option maxHeartbeats 800000 in
/-- The program is its one region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables: each block's expert and the number of its rows. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them, each held at half a share. -/
abbrev table0 : Memref sig .tc .smem S82 .i32 := Memref.whole main_arg0
abbrev table0_whole : table0.IsWhole := Memref.isWhole_whole _
abbrev table1 : Memref sig .tc .smem S82 .i32 := Memref.whole main_arg1
abbrev table1_whole : table1.IsWhole := Memref.isWhole_whole _
abbrev TableBuf (c : Dev nD) {S : Shape} {e : EltTy} (M : Memref sig .tc .smem S e) : Type := Buf (Elt F) (M.view.loc (c : Thread nD τ))
abbrev tableAt (c : Dev nD) {S : Shape} {e : EltTy} (M : Memref sig .tc .smem S e) (f : TableBuf (F := F) c M) : sProp 𝕄 :=
  M.view.loc (c : Thread nD τ) ↦{fullShare.right} f

theorem tables_eq (c : Dev nD) : (Pipeline.ΦT pre0 (tbl m) c : sProp 𝕄) = iprop(tableAt c table0 (tbl m 0) ∗ tableAt c table1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The memrefs the body is called with at a point. -/
abbrev ms0 (hO : Ok m) (t : Fin (cfgM m hO).N) : Memref sig .tc .vmem S4096x128 .f32 := spec0_0.stage ((cfgM m hO).slots t 0)
abbrev ms1 (hO : Ok m) (t : Fin (cfgM m hO).N) : Memref sig .tc .vmem S1x1x1024x1024 .f32 := spec0_1.stage ((cfgM m hO).slots t 1)
abbrev ms2 (hO : Ok m) (t : Fin (cfgM m hO).N) : Memref sig .tc .vmem S1x1x1024x1024 .f32 := spec0_2.stage ((cfgM m hO).slots t 2)
abbrev ms3 (hO : Ok m) (t : Fin (cfgM m hO).N) : Memref sig .tc .vmem S1x1x1024x1024 .f32 := spec0_3.stage ((cfgM m hO).slots t 3)
abbrev ms4 (hO : Ok m) (t : Fin (cfgM m hO).N) : Memref sig .tc .vmem S4096x128 .f32 := spec0_4.stage ((cfgM m hO).slots t 4)
abbrev sc0 : Memref sig .tc .vmem S1024x1024 .bf16 := Memref.whole cc0_scratch0
abbrev sc1 : Memref sig .tc .vmem S1024x1024 .bf16 := Memref.whole cc0_scratch1
abbrev sc2 : Memref sig .tc .vmem S1024x1024 .bf16 := Memref.whole cc0_scratch2

abbrev bodyAt (a : (pcfg0 (F := F)).Adm) (t : Fin (cfg0 a).N) : Prog (TpuEff nD τ sig (Elt F) Λ₀ .tc) PUnit :=
  cc0_experts (grid0.coords t) table0 table0_whole table1 table1_whole (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) sc0 (Memref.isWhole_whole _) sc1 (Memref.isWhole_whole _) sc2 (Memref.isWhole_whole _)

/-- What the class invariant holds: the scratch buffers and the generator's register. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The two words of the first table and the word of the second that a point reads. -/
def word0 (c : Dev nD) (i : grid0.Coords) (f : TableBuf (F := F) c table0) : BitVec 32 :=
  table0.view.readAt (Elt F) (Rect.unit (s := S82) (k0_off1 i) S1.size (k0_off1_inb i)).toLoadRect f (Shape.Idx.first (numel1_S1.symm ▸ Nat.one_pos))
def word1 (c : Dev nD) (i : grid0.Coords) (f : TableBuf (F := F) c table0) : BitVec 32 :=
  table0.view.readAt (Elt F) (Rect.unit (s := S82) (k0_off2 i) S1.size (k0_off2_inb i)).toLoadRect f (Shape.Idx.first (numel1_S1.symm ▸ Nat.one_pos))
def word2 (c : Dev nD) (i : grid0.Coords) (f : TableBuf (F := F) c table1) : BitVec 32 :=
  table1.view.readAt (Elt F) (Rect.unit (s := S82) (k0_off1 i) S1.size (k0_off1_inb i)).toLoadRect f (Shape.Idx.first (numel1_S1.symm ▸ Nat.one_pos))

/-- A point takes its expert's weights when it is the first or its expert is not the point before's. -/
abbrev takes (i : grid0.Coords) (e e' : BitVec 32) : Prop :=
  Scalar.cmpi .ne (Scalar.extui (Scalar.ori (Scalar.cmpi .eq (BitVec.ofNat 32 (i 0).val) 0#32) (Scalar.cmpi .ne e e'))) 0#32 = 1#1

end Cert.ExpertsIdeal.Run

end
-- ==== Proof.ExpertsTables.lean ====
/-
  What the experts' tables say: the words a point reads, the blocks they name, and what the precondition gives of them.
-/
module

public import proofs.«01_k».proof.Proof.ExpertsKit
public import proofs.«01_k».proof.Proof.Gen.Pre_block_tables
public import Idealize.ShloMosaic.Lib.Pointwise
public import Idealize.ShloMosaic.Lib.Affine
public import Idealize.ShloMosaic.Lib.ReduceAll

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Cert.ExpertsIdeal Cert.ExpertsIdeal.Gen

variable {F : FTy → Type} [FloatOps F]
variable (m : (ℓ : Loc nD τ sig) → Buf (Elt F) ℓ)

/-- A block's expert, and the number of its rows. -/
def expert (n : Fin 82) : BitVec 32 := tbl m 0 (ix1 n)
def rows (n : Fin 82) : BitVec 32 := tbl m 1 (ix1 n)

/-- What the precondition says of the tables: an expert is one of sixteen, no number of rows is negative. -/
structure Good : Prop where
  lt : ∀ n, (expert m n).toNat < 16
  nonneg : ∀ n, 0 ≤ (rows m n).toInt

theorem off1_eq : ∀ i : grid0.Coords, k0_off1 i 0 = (i 0).val := by decide +kernel
theorem off2_eq : ∀ i : grid0.Coords, k0_off2 i 0 = (i 0).val - 1 := by decide +kernel
theorem coord_eq : ∀ t : Fin grid0.N, (grid0.coords t 0).val = t.val := by decide +kernel
theorem coord_word : ∀ i : grid0.Coords, (BitVec.ofNat 32 (i 0).val).toNat = (i 0).val := by decide +kernel

theorem ix1_ext {n : ℕ} {a b : (⟨1, ![n]⟩ : Shape).Idx} (h : (a 0).val = (b 0).val) : a = b := by
  funext j; match j with | ⟨0, _⟩ => exact Fin.ext h

theorem word0_eq (c : Dev nD) (i : grid0.Coords) : word0 c i (tbl m 0) = expert m (i 0) := by
  unfold word0 expert
  exact congrArg (tbl m 0) (ix1_ext (by
    show k0_off1 i 0 + 1 * 0 = (i 0).val
    rw [off1_eq]; omega))
theorem word1_eq (c : Dev nD) (i : grid0.Coords) : word1 c i (tbl m 0) = expert m ⟨(i 0).val - 1, by have := (i 0).isLt; exact lt_of_le_of_lt (Nat.sub_le _ _) this⟩ := by
  unfold word1 expert
  exact congrArg (tbl m 0) (ix1_ext (by
    show k0_off2 i 0 + 1 * 0 = (i 0).val - 1
    rw [off2_eq]; omega))
theorem word2_eq (c : Dev nD) (i : grid0.Coords) : word2 c i (tbl m 1) = rows m (i 0) := by
  unfold word2 rows
  exact congrArg (tbl m 1) (ix1_ext (by
    show k0_off1 i 0 + 1 * 0 = (i 0).val
    rw [off1_eq]; omega))

/-- The expert a transform reads off its table. -/
theorem at_eq (i : grid0.Coords) :
    (tbl m).at 0 (Rect.unit (s := S82) ![(Scalar.indexCast (BitVec.ofNat 32 (i 0).val)).toNat] S1.size (k0_off1_inb i)) numel1_S1 = expert m (i 0) := by
  unfold expert
  exact congrArg (tbl m 0) (ix1_ext (by
    show k0_off1 i 0 + 1 * 0 = (i 0).val
    rw [off1_eq]; omega))

theorem transform1 (i : grid0.Coords) : cc0_transform_1 k0_off1_inb numel1_S1 (tbl m) i = ![0, (expert m (i 0)).toNat, 0, 0] := by
  rw [← at_eq m i]; rfl
theorem transform2 (i : grid0.Coords) : cc0_transform_2 k0_off1_inb numel1_S1 (tbl m) i = ![0, (expert m (i 0)).toNat, 0, 0] := by
  rw [← at_eq m i]; rfl
theorem transform3 (i : grid0.Coords) : cc0_transform_3 k0_off1_inb numel1_S1 (tbl m) i = ![0, (expert m (i 0)).toNat, 0, 0] := by
  rw [← at_eq m i]; rfl

variable {m}

theorem Good.block (h : Good m) (n : Fin 82) (a : Fin 4) :
    ((![0, (expert m n).toNat, 0, 0] : Fin 4 → ℕ) a + 1) * S1x1x1024x1024.size a ≤ S2x16x1024x1024.size a := by
  have := h.lt n
  match a with
  | 0 => show (0 + 1) * 1 ≤ 2; omega
  | 1 => show ((expert m n).toNat + 1) * 1 ≤ 16; omega
  | 2 => show (0 + 1) * 1024 ≤ 1024; omega
  | 3 => show (0 + 1) * 1024 ≤ 1024; omega

/-- Then every block the tables name lies in its array. -/
theorem Good.ok (h : Good m) : Ok m :=
  ⟨fun i => ⟨fun a => by rw [transform1]; exact h.block (i 0) a, .inl rfl⟩,
   fun i => ⟨fun a => by rw [transform2]; exact h.block (i 0) a, .inl rfl⟩,
   fun i => ⟨fun a => by rw [transform3]; exact h.block (i 0) a, .inl rfl⟩⟩

theorem ofBool_one {b : Bool} (h : BitVec.ofBool b = 1#1) : b = true := by
  cases b
  · exact absurd h (by decide)
  · rfl

theorem word_nonneg (w : BitVec 32) (h : 0 ≤ w.toInt) :
    (w.toInt ≠ 0 ∧ k0_cond2 w = 1#1 ∧ ¬k0_cond3 w = 1#1) ∨ (w = 0#32 ∧ ¬k0_cond2 w = 1#1 ∧ k0_cond3 w = 1#1) := by
  by_cases e : w = 0#32
  · subst e; exact .inr ⟨rfl, by decide, by decide⟩
  · have e' : w.toInt ≠ 0 := fun h0 => e (BitVec.eq_of_toInt_eq (by rw [h0]; rfl))
    have p : (0#32).slt w = true := by
      rw [BitVec.slt_iff_toInt_lt]; simp only [BitVec.toInt_zero]; omega
    refine .inl ⟨e', ?_, ?_⟩
    · simp [k0_cond2, Scalar.cmpi, IntOp.cmpi, Scalar.extui, p]
    · show ¬BitVec.ofBool (BitVec.setWidth 32 (BitVec.ofBool (w == 0#32)) != 0#32) = 1#1
      rw [show (w == 0#32) = false from by simpa using e]
      decide

instance : Subsingleton Cert.Pre_block_tables.S_.Idx := ⟨fun i j => funext fun a => a.elim0⟩

/-- The precondition, read. -/
theorem good_of {a2 a3 a4 a5} (h : Cert.Pre_block_tables.fn (F := F) (tbl m 0) (tbl m 1) a2 a3 a4 a5 = fun _ => 1#1) : Good m := by
  have h' := congrFun h (fun a => a.elim0)
  dsimp only [Cert.Pre_block_tables.fn] at h'
  obtain ⟨he, hc⟩ := IntOp.andi_eq_one.1 h'
  refine ⟨fun n => ?_, fun n => ?_⟩
  · have e := Host.reduce_andi_all _ _ _ _ _ he (ix1 n)
    obtain ⟨e1, e2⟩ := IntOp.andi_eq_one.1 e
    have e1' : IntOp.cmpi .sge (expert m n) 0#32 = 1#1 := e1
    have e2' : IntOp.cmpi .slt (expert m n) 16#32 = 1#1 := e2
    generalize expert m n = w at e1' e2'
    have p1 : (0#32).sle w = true := ofBool_one e1'
    have p2 : w.slt 16#32 = true := ofBool_one e2'
    rw [BitVec.sle_iff_toInt_le] at p1
    rw [BitVec.slt_iff_toInt_lt] at p2
    have q1 : (0 : ℤ) ≤ w.toInt := p1
    have q2 : w.toInt < 16 := p2
    rw [BitVec.toInt_eq_toNat_cond] at q1 q2
    split at q1 <;> omega
  · have e := Host.reduce_andi_all _ _ _ _ _ hc (ix1 n)
    have e1' : IntOp.cmpi .sge (rows m n) 0#32 = 1#1 := e
    generalize rows m n = w at e1'
    have p1 : (0#32).sle w = true := ofBool_one e1'
    rw [BitVec.sle_iff_toInt_le] at p1
    exact p1

/-- A point takes its expert's weights at the start and where the expert changes. -/
theorem not_takes {i : grid0.Coords} {e e' : BitVec 32} (h : ¬takes i e e') : (i 0).val ≠ 0 ∧ e = e' := by
  unfold takes at h
  have hz := coord_word i
  generalize BitVec.ofNat 32 (i 0).val = w at h hz
  change ¬BitVec.ofBool (BitVec.setWidth 32 (IntOp.ori (BitVec.ofBool (w == 0#32)) (BitVec.ofBool (e != e'))) != 0#32) = 1#1 at h
  by_cases h0 : w = 0#32
  · rw [show (w == 0#32) = true from by simpa using h0] at h
    exact absurd (by cases (e != e') <;> rfl) h
  · by_cases h1 : e = e'
    · exact ⟨fun hi => h0 (BitVec.eq_of_toNat_eq (by rw [hz, hi]; rfl)), h1⟩
    · rw [show (e != e') = true from by simpa using h1] at h
      exact absurd (by cases (w == 0#32) <;> rfl) h

/-- An expert's block of a weight array. -/
def wblk (x : S2x16x1024x1024.Idx → Elt F .f32) (e : BitVec 32) : S1x1x1024x1024.Idx → Elt F .f32 :=
  fun y => x (ix4 (0 : Fin 2) (⟨e.toNat % 16, Nat.mod_lt _ (by decide)⟩ : Fin 16) (y 2 : Fin 1024) (y 3 : Fin 1024))

end Cert.ExpertsIdeal.Run

end
-- ==== Proof.ExpertsTile.lean ====
/-
  The blocks of the experts: rows eight to a tile, read and written by strided loads and stores.
-/
module

public import proofs.«01_k».proof.Proof.ExpertsKit
public import Idealize.ShloMosaic.Lib.Pointwise
public import Idealize.ShloMosaic.Lib.WholeRead
public import Idealize.ShloMosaic.Lib.VecWindow

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-- A block of tokens holds its rows eight to a tile, each in eight parts of 128: the parts of all rows that stand at one position of
    their tiles, -/
def part (x : Vec F S4096x128 .f32) (s : Fin 8) : Vec F S512x128 .f32 := fun k =>
  x (ix2 (n0 := 4096) (n1 := 128) ⟨8 * (k 0).val + s.val, by have h : (k 0).val < 512 := (k 0).isLt; have := s.isLt; omega⟩ (k 1))

/-- and the block whose rows, put together from their parts, are given. -/
def tile (Y : FVec F S512x1024 .f32) : Vec F S4096x128 .f32 := fun y =>
  Y (ix2 (n0 := 512) (n1 := 1024) ⟨(y 0).val / 8, by have h : (y 0).val < 4096 := (y 0).isLt; omega⟩
    ⟨128 * ((y 0).val % 8) + (y 1).val, by have h : (y 1).val < 128 := (y 1).isLt; omega⟩)

/-- What the point's matrix products give of the block and the weights in use. -/
def mix (x : Vec F S4096x128 .f32) (g u d : Vec F S1024x1024 .bf16) : FVec F S512x1024 .f32 :=
  k0_pay11 (part x 0) (part x 1) (part x 2) (part x 3) (part x 4) (part x 5) (part x 6) (part x 7) g u d

theorem mix_of {x : Vec F S4096x128 .f32} {a0 a1 a2 a3 a4 a5 a6 a7 : Vec F S512x128 .f32} {g u d g' u' d' : Vec F S1024x1024 .bf16}
    (h0 : a0 = part x 0) (h1 : a1 = part x 1) (h2 : a2 = part x 2) (h3 : a3 = part x 3) (h4 : a4 = part x 4) (h5 : a5 = part x 5)
    (h6 : a6 = part x 6) (h7 : a7 = part x 7) (hg : g = g') (hu : u = u') (hd : d = d') :
    k0_pay11 a0 a1 a2 a3 a4 a5 a6 a7 g u d = mix x g' u' d' := by
  subst h0 h1 h2 h3 h4 h5 h6 h7 hg hu hd; rfl

/-- A strided load takes a part. -/
theorem load_part {arg : Memref sig .tc .vmem S4096x128 .f32} (harg : arg.IsWhole) (x : Vec F S4096x128 .f32) (s : Fin 8)
    (inb : ∀ a, S512x128.size a = 0 ∨ (![s.val, 0] : Fin 2 → ℕ) a + (![8, 1] : Fin 2 → ℕ) a * (S512x128.size a - 1) < S4096x128.size a) :
    View.readAt (Elt F) arg.view (⟨![s.val, 0], S512x128.size, ![8, 1], inb⟩ : LoadRect S4096x128) (harg.unread x) = part x s := by
  funext k
  refine (harg.readAt_unread x _ k).trans (congrArg x ?_)
  funext a
  fin_cases a
  · exact Fin.ext (Nat.add_comm _ _)
  · exact Fin.ext ((Nat.zero_add _).trans (Nat.one_mul _))

/-- The rectangle a strided store writes. -/
abbrev place (s : Fin 8) (inb : ∀ a, S512x128.size a = 0 ∨ (![s.val, 0] : Fin 2 → ℕ) a + (![8, 1] : Fin 2 → ℕ) a * (S512x128.size a - 1) < S4096x128.size a) :
    Rect S4096x128 := ⟨⟨![s.val, 0], S512x128.size, ![8, 1], inb⟩, spos_8_1⟩

/-- A strided store of the columns from `128 s` puts the part in its place. -/
theorem place_apply (Y : FVec F S512x1024 .f32) (s : Fin 8) (inb) (o : ℕ) (ho : o = 128 * s.val) (h : S512x1024.Slices ![0, o] S512x128)
    (k : (place s inb).shape.Idx) : (extractStridedSlice S512x128 ![0, o] Y h : FVec F S512x128 .f32) k = tile Y ((place s inb).emb k) := by
  subst ho
  have h0 : (k 0).val < 512 := (k 0).isLt
  have h1 : (k 1).val < 128 := (k 1).isLt
  have hs := s.isLt
  have e0 : (((place s inb).emb k) 0).val = s.val + 8 * (k 0).val := rfl
  have e1 : (((place s inb).emb k) 1).val = 0 + 1 * (k 1).val := rfl
  refine congrArg Y ?_
  funext a
  fin_cases a
  · refine Fin.ext ?_
    show 0 + (k 0).val = (((place s inb).emb k) 0).val / 8
    rw [e0]; omega
  · refine Fin.ext ?_
    show 128 * s.val + (k 1).val = 128 * ((((place s inb).emb k) 0).val % 8) + (((place s inb).emb k) 1).val
    rw [e0, e1]; omega

theorem mem_place (s : Fin 8) (inb) (y : S4096x128.Idx) (h : (y 0).val % 8 = s.val) : y ∈ (place s inb).set := by
  have h0 : (y 0).val < 4096 := (y 0).isLt
  have h1 : (y 1).val < 128 := (y 1).isLt
  refine (place s inb).mem_set.mpr fun a => ?_
  fin_cases a
  · exact ⟨(y 0).val / 8, by show _ < 512; omega, by show (y 0).val = s.val + 8 * ((y 0).val / 8); omega⟩
  · exact ⟨(y 1).val, h1, by show (y 1).val = 0 + 1 * (y 1).val; omega⟩

/-- The eight strided stores leave the block of the given rows. -/
theorem stored {κ : Kind} {sp : Space} (v : View sig κ sp S4096x128 .f32) (f : v.ty.Contents (Elt F)) (Y : FVec F S512x1024 .f32) :
    v.read (Elt F) (v.writes (Elt F) f
      [⟨place 7 inb_S4096x128_S512x128_7_0_s_8_1, k0_pay9 Y⟩, ⟨place 6 inb_S4096x128_S512x128_6_0_s_8_1, k0_pay8 Y⟩,
       ⟨place 5 inb_S4096x128_S512x128_5_0_s_8_1, k0_pay7 Y⟩, ⟨place 4 inb_S4096x128_S512x128_4_0_s_8_1, k0_pay6 Y⟩,
       ⟨place 3 inb_S4096x128_S512x128_3_0_s_8_1, k0_pay5 Y⟩, ⟨place 2 inb_S4096x128_S512x128_2_0_s_8_1, k0_pay4 Y⟩,
       ⟨place 1 inb_S4096x128_S512x128_1_0_s_8_1, extractStridedSlice S512x128 ![0, 128] Y slices_S512x1024_o0_128_S512x128⟩,
       ⟨place 0 inb_S4096x128_S512x128_0_0_s_8_1, extractStridedSlice S512x128 ![0, 0] Y slices_S512x1024_o0_0_S512x128⟩]) = tile Y := by
  funext y
  refine View.read_writes_apply_of_pieces v f (tile Y) _ ?_ y ?_
  · intro p hp
    simp only [List.mem_cons, List.not_mem_nil, or_false] at hp
    obtain rfl | rfl | rfl | rfl | rfl | rfl | rfl | rfl := hp
    · exact fun k => place_apply Y 7 _ 896 rfl slices_S512x1024_o0_896_S512x128 k
    · exact fun k => place_apply Y 6 _ 768 rfl slices_S512x1024_o0_768_S512x128 k
    · exact fun k => place_apply Y 5 _ 640 rfl slices_S512x1024_o0_640_S512x128 k
    · exact fun k => place_apply Y 4 _ 512 rfl slices_S512x1024_o0_512_S512x128 k
    · exact fun k => place_apply Y 3 _ 384 rfl slices_S512x1024_o0_384_S512x128 k
    · exact fun k => place_apply Y 2 _ 256 rfl slices_S512x1024_o0_256_S512x128 k
    · exact fun k => place_apply Y 1 _ 128 rfl slices_S512x1024_o0_128_S512x128 k
    · exact fun k => place_apply Y 0 _ 0 rfl slices_S512x1024_o0_0_S512x128 k
  · have h8 : (y 0).val % 8 < 8 := Nat.mod_lt _ (by omega)
    generalize hs : (y 0).val % 8 = s at h8
    have hm : ∀ (r : Fin 8) inb, s = r.val → y ∈ (place r inb).set := fun r inb h => mem_place r inb y (hs.trans h)
    obtain rfl | rfl | rfl | rfl | rfl | rfl | rfl | rfl : s = 0 ∨ s = 1 ∨ s = 2 ∨ s = 3 ∨ s = 4 ∨ s = 5 ∨ s = 6 ∨ s = 7 := by omega
    · exact ⟨_, .tail _ (.tail _ (.tail _ (.tail _ (.tail _ (.tail _ (.tail _ (.head _))))))), hm 0 _ rfl⟩
    · exact ⟨_, .tail _ (.tail _ (.tail _ (.tail _ (.tail _ (.tail _ (.head _)))))), hm 1 _ rfl⟩
    · exact ⟨_, .tail _ (.tail _ (.tail _ (.tail _ (.tail _ (.head _))))), hm 2 _ rfl⟩
    · exact ⟨_, .tail _ (.tail _ (.tail _ (.tail _ (.head _)))), hm 3 _ rfl⟩
    · exact ⟨_, .tail _ (.tail _ (.tail _ (.head _))), hm 4 _ rfl⟩
    · exact ⟨_, .tail _ (.tail _ (.head _)), hm 5 _ rfl⟩
    · exact ⟨_, .tail _ (.head _), hm 6 _ rfl⟩
    · exact ⟨_, .head _, hm 7 _ rfl⟩

/-- A load of a whole memref. -/
theorem load_whole {sp : Space} {s : Shape} {e : EltTy} {arg : Memref sig .tc sp s e} (harg : arg.IsWhole) (x : s.Idx → Elt F e) {off : Fin s.rank → ℕ}
    (inb : ∀ a, off a + s.size a ≤ s.size a) :
    View.readAt (Elt F) arg.view (Rect.unit (s := s) off s.size inb).toLoadRect (harg.unread x) = x :=
  (View.readAt_full _ _ inb).trans (harg.read_unread x)

end Cert.ExpertsIdeal.Run

end
-- ==== Proof.ExpertsBody.lean ====
/-
  One point of the experts: the weights it takes or keeps, and the block it writes.
-/
module

public import proofs.«01_k».proof.Proof.ExpertsTile
public import Idealize.ShloMosaic.Lib.Claim

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (c : Dev nD)

attribute [local irreducible] k0_pay1 k0_pay2 k0_pay3 k0_pay11 View.writes Memref.IsWhole.unread

set_option maxHeartbeats 1000000 in
/-- A point's triple: it takes its expert's weights or keeps those in use, and writes the products of its block's rows, or zeros where
    the block has no rows. -/
theorem body_triple (i : grid0.Coords) (arg3 : Memref sig .tc .vmem S4096x128 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S4096x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 y : Vec F S4096x128 .f32) (x1 x2 x3 : Vec F S1x1x1024x1024 .f32) (g u d g' u' d' : Vec F S1024x1024 .bf16) (f0 : TableBuf (F := F) c table0) (f1 : TableBuf (F := F) c table1)
    (hw : (takes i (word0 c i f0) (word1 c i f0) ∧ g' = k0_pay1 x1 ∧ u' = k0_pay2 x2 ∧ d' = k0_pay3 x3)
      ∨ (¬ takes i (word0 c i f0) (word1 c i f0) ∧ g' = g ∧ u' = u ∧ d' = d))
    (hy : (k0_cond2 (word2 c i f1) = 1#1 ∧ ¬ k0_cond3 (word2 c i f1) = 1#1 ∧ y = tile (mix x0 g' u' d'))
      ∨ (¬ k0_cond2 (word2 c i f1) = 1#1 ∧ k0_cond3 (word2 c i f1) = 1#1 ∧ y = k0_pay10))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare g ∗ owns (c : Thread nD τ) arg9 fullShare u ∗ owns (c : Thread nD τ) arg10 fullShare d ∗ tableAt c table0 f0 ∗ tableAt c table1 f1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y ∗ owns (c : Thread nD τ) arg8 fullShare g' ∗ owns (c : Thread nD τ) arg9 fullShare u' ∗ owns (c : Thread nD τ) arg10 fullShare d' ∗ tableAt c table0 f0 ∗ tableAt c table1 f1) -∗ K ⟨⟩))
      ⊢ wp frame (wpE (defs₀ (F := F)) Variants.none c none) E (cc0_experts i table0 table0_whole table1 table1_whole arg3 harg3 arg4 harg4 arg5 harg5 arg6 harg6 arg7 harg7 arg8 harg8 arg9 harg9 arg10 harg10) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  rcases hw with ⟨hc0, rfl, rfl, rfl⟩ | ⟨hc0, rfl, rfl, rfl⟩ <;> rcases hy with ⟨hc2, hc3, rfl⟩ | ⟨hc2, hc3, rfl⟩
  all_goals
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      first
        | refine (stored arg7.view f4 _).trans (congrArg tile ?_)
          refine mix_of (load_part harg3 x0 0 _) (load_part harg3 x0 1 _) (load_part harg3 x0 2 _) (load_part harg3 x0 3 _)
            (load_part harg3 x0 4 _) (load_part harg3 x0 5 _) (load_part harg3 x0 6 _) (load_part harg3 x0 7 _) ?_ ?_ ?_
          · first | exact load_whole harg8 _ _ | exact (View.readAt_writes_full arg8.view _ _ _ _ _).trans (congrArg k0_pay1 (load_whole harg4 x1 _))
          · first | exact load_whole harg9 _ _ | exact (View.readAt_writes_full arg9.view _ _ _ _ _).trans (congrArg k0_pay2 (load_whole harg5 x2 _))
          · first | exact load_whole harg10 _ _ | exact (View.readAt_writes_full arg10.view _ _ _ _ _).trans (congrArg k0_pay3 (load_whole harg6 x3 _))
        | exact View.read_writes_full arg7.view f4 _ _ _
    isplitl [HS0]
    · iexists _; isplitr; swap; · iexact HS0
      ipureintro
      first | exact harg8.read_unread _ | exact (View.read_writes_full arg8.view _ _ _ _).trans (congrArg k0_pay1 (load_whole harg4 x1 _))
    isplitl [HS1]
    · iexists _; isplitr; swap; · iexact HS1
      ipureintro
      first | exact harg9.read_unread _ | exact (View.read_writes_full arg9.view _ _ _ _).trans (congrArg k0_pay2 (load_whole harg5 x2 _))
    isplitl [HS2]
    · iexists _; isplitr; swap; · iexact HS2
      ipureintro
      first | exact harg10.read_unread _ | exact (View.read_writes_full arg10.view _ _ _ _).trans (congrArg k0_pay3 (load_whole harg6 x3 _))
    isplitl [HT0]; · iexact HT0
    iexact HT1

end Cert.ExpertsIdeal.Run

end
-- ==== Proof.ExpertsRun.lean ====
/-
  The experts' run: what each point leaves in its block, the weights carried from point to point, and the arrays at the end.
-/
module

public import proofs.«01_k».proof.Proof.ExpertsTables
public import proofs.«01_k».proof.Proof.ExpertsBody
public import Idealize.ShloMosaic.Lib.Pipeline.ValueKit
public import Idealize.ShloMosaic.Lib.Claim

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- A point's number among the blocks. -/
abbrev num (hO : Ok m) (t : Fin (cfgM m hO).N) : Fin 82 := grid0.coords t 0

theorem num_val (hO : Ok m) (t : Fin (cfgM m hO).N) : (num m hO t).val = t.val := coord_eq t

theorem index0 : ∀ t : Fin grid0.N, cc0_transform_0 (grid0.coords t) = ![t.val, 0] := by decide +kernel

/-- A point's rows. -/
def xrows (c : Dev nD) (n : Fin 82) : S4096x128.Idx → Elt F .f32 :=
  fun y => V m c main_arg2 (ix2 (n0 := 335872) (n1 := 128) ⟨4096 * n.val + (y 0).val, by have := n.isLt; have : (y 0).val < 4096 := (y 0).isLt; omega⟩ (y 1))

theorem iblk0_at (hO : Ok m) (c : Dev nD) (t : Fin (cfgM m hO).N) (r : Fin 4096) (l : Fin 128) :
    iblk m hO c 0 t (ix2 r l) = V m c main_arg2 (ix2 (n0 := 335872) (n1 := 128) ⟨4096 * t.val + r.val, by
      have := t.isLt; have e : (cfgM m hO).N = 82 := N_0; omega⟩ l) := by
  have hi : ((cfgM m hO).win 0).index t = ![t.val, 0] := index0 t
  blk_ext [iblk, hi]

theorem iblk0_eq (hO : Ok m) (c : Dev nD) (t : Fin (cfgM m hO).N) : iblk m hO c 0 t = xrows m c (num m hO t) := by
  funext y
  have hy : y = ix2 (n0 := 4096) (n1 := 128) _ _ := eq_ix2 (n0 := 4096) (n1 := 128) y
  refine (congrArg (iblk m hO c 0 t) hy).trans ((iblk0_at m hO c t _ _).trans ?_)
  unfold xrows
  exact congrArg (V m c main_arg2) (congrArg (fun k => ix2 k _) (Fin.ext (congrArg (fun k => 4096 * k + _) (num_val m hO t).symm)))

/-- An expert's block, read off the array at its number. -/
theorem wblk_of (h : Good m) (x : S2x16x1024x1024.Idx → Elt F .f32) (n : Fin 82) (f : S1x1x1024x1024.Idx → Elt F .f32)
    (hf : ∀ (a b : Fin 1024), f (ix4 0 0 a b) = x (ix4 0 ⟨(expert m n).toNat, h.lt n⟩ a b)) : f = wblk x (expert m n) := by
  funext y
  have h0 : y 0 = (0 : Fin 1) := Subsingleton.elim (α := Fin 1) _ _
  have h1 : y 1 = (0 : Fin 1) := Subsingleton.elim (α := Fin 1) _ _
  have hy : y = ix4 (n0 := 1) (n1 := 1) (n2 := 1024) (n3 := 1024) 0 0 (y 2) (y 3) := by
    funext a
    match a with
    | ⟨0, _⟩ => exact h0
    | ⟨1, _⟩ => exact h1
    | ⟨2, _⟩ => rfl
    | ⟨3, _⟩ => rfl
  refine (congrArg f hy).trans ((hf _ _).trans ?_)
  unfold wblk
  exact congrArg (fun k => x (ix4 0 k (y 2) (y 3))) (Fin.ext (Nat.mod_eq_of_lt (h.lt n)).symm)

theorem iblk1_eq (h : Good m) (hO : Ok m) (c : Dev nD) (t : Fin (cfgM m hO).N) :
    iblk m hO c 1 t = wblk (V m c main_arg3) (expert m (num m hO t)) :=
  wblk_of m h _ _ _ fun a b => by
    have hi : ((cfgM m hO).win 1).index t = ![0, (expert m (num m hO t)).toNat, 0, 0] := transform1 m (grid0.coords t)
    blk_ext [iblk, hi]

theorem iblk2_eq (h : Good m) (hO : Ok m) (c : Dev nD) (t : Fin (cfgM m hO).N) :
    iblk m hO c 2 t = wblk (V m c main_arg4) (expert m (num m hO t)) :=
  wblk_of m h _ _ _ fun a b => by
    have hi : ((cfgM m hO).win 2).index t = ![0, (expert m (num m hO t)).toNat, 0, 0] := transform2 m (grid0.coords t)
    blk_ext [iblk, hi]

theorem iblk3_eq (h : Good m) (hO : Ok m) (c : Dev nD) (t : Fin (cfgM m hO).N) :
    iblk m hO c 3 t = wblk (V m c main_arg5) (expert m (num m hO t)) :=
  wblk_of m h _ _ _ fun a b => by
    have hi : ((cfgM m hO).win 3).index t = ![0, (expert m (num m hO t)).toNat, 0, 0] := transform3 m (grid0.coords t)
    blk_ext [iblk, hi]

/-! ## The proof data -/

/-- The expert's weights as the body keeps them. -/
def gateW (c : Dev nD) (e : BitVec 32) : FVec F S1024x1024 .bf16 := k0_pay1 (wblk (V m c main_arg3) e)
def upW (c : Dev nD) (e : BitVec 32) : FVec F S1024x1024 .bf16 := k0_pay2 (wblk (V m c main_arg4) e)
def downW (c : Dev nD) (e : BitVec 32) : FVec F S1024x1024 .bf16 := k0_pay3 (wblk (V m c main_arg5) e)

open Classical in
/-- What a point leaves in its block: the expert's answer to its rows, or zeros where it has no row. -/
def result (c : Dev nD) (n : Fin 82) : FVec F S4096x128 .f32 :=
  if (rows m n).toInt = 0 then k0_pay10
  else tile (mix (xrows m c n) (gateW m c (expert m n)) (upW m c (expert m n)) (downW m c (expert m n)))

/-- The kept weights before a point: after the first, those of the point before. -/
def kept (c : Dev nD) (n : ℕ) (g u d : FVec F S1024x1024 .bf16) : Prop :=
  ∀ k : Fin 82, k.val + 1 = n → g = gateW m c (expert m k) ∧ u = upW m c (expert m k) ∧ d = downW m c (expert m k)

def Inv (c : Dev nD) (n : ℕ) : sProp 𝕄 :=
  iprop((∃ g u d, owns (c : Thread nD τ) sc0 fullShare g ∗ owns (c : Thread nD τ) sc1 fullShare u ∗ owns (c : Thread nD τ) sc2 fullShare d
      ∗ ⌜kept m c n g u d⌝) ∗ (∃ r, prngReg c r) ∗ tableAt c table0 (tbl m 0) ∗ tableAt c table1 (tbl m 1))

/-- The proof data: inputs left in place, the result's block at `result`, the weights carried. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => result m c (num m hO t)
  Φ t := Inv m c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = result m c (num m hO t) := by dsimp only [dats]; try rfl

/-- An input's staging buffer holds its block at every point. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The result's block is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The weights after a point: taken there, or kept since the point before had the same expert. -/
theorem weights (c : Dev nD) (i : grid0.Coords) {g u d : FVec F S1024x1024 .bf16} (hk : kept m c (i 0).val g u d) :
    (takes i (word0 c i (tbl m 0)) (word1 c i (tbl m 0)) ∧ gateW m c (expert m (i 0)) = k0_pay1 (wblk (V m c main_arg3) (expert m (i 0)))
        ∧ upW m c (expert m (i 0)) = k0_pay2 (wblk (V m c main_arg4) (expert m (i 0)))
        ∧ downW m c (expert m (i 0)) = k0_pay3 (wblk (V m c main_arg5) (expert m (i 0))))
      ∨ (¬takes i (word0 c i (tbl m 0)) (word1 c i (tbl m 0)) ∧ gateW m c (expert m (i 0)) = g ∧ upW m c (expert m (i 0)) = u
        ∧ downW m c (expert m (i 0)) = d) := by
  by_cases ht : takes i (word0 c i (tbl m 0)) (word1 c i (tbl m 0))
  · exact .inl ⟨ht, rfl, rfl, rfl⟩
  · obtain ⟨h0, he⟩ := not_takes ht
    rw [word0_eq, word1_eq] at he
    have hlt : (i 0).val < 82 := (i 0).isLt
    obtain ⟨hg, hu, hd⟩ := hk ⟨(i 0).val - 1, by omega⟩ (by show (i 0).val - 1 + 1 = _; omega)
    rw [← he] at hg hu hd
    exact .inr ⟨ht, hg.symm, hu.symm, hd.symm⟩

/-- What the point leaves. -/
theorem leaves (h : Good m) (c : Dev nD) (i : grid0.Coords) :
    (k0_cond2 (word2 c i (tbl m 1)) = 1#1 ∧ ¬k0_cond3 (word2 c i (tbl m 1)) = 1#1
        ∧ result m c (i 0) = tile (mix (xrows m c (i 0)) (gateW m c (expert m (i 0))) (upW m c (expert m (i 0))) (downW m c (expert m (i 0)))))
      ∨ (¬k0_cond2 (word2 c i (tbl m 1)) = 1#1 ∧ k0_cond3 (word2 c i (tbl m 1)) = 1#1 ∧ result m c (i 0) = k0_pay10) := by
  rw [word2_eq]
  rcases word_nonneg _ (h.nonneg (i 0)) with ⟨e, h2, h3⟩ | ⟨e, h2, h3⟩
  · exact .inl ⟨h2, h3, if_neg e⟩
  · exact .inr ⟨h2, h3, if_pos (by rw [e]; rfl)⟩

theorem kept_next (c : Dev nD) (n : Fin 82) : kept m c (n.val + 1) (gateW m c (expert m n)) (upW m c (expert m n)) (downW m c (expert m n)) := by
  intro k hk
  obtain rfl : k = n := Fin.ext (by omega)
  exact ⟨rfl, rfl, rfl⟩

set_option maxHeartbeats 1000000 in
theorem sound_body (h : Good m) (hO : Ok m) (c : Dev nD) (t : Fin (cfgM m hO).N) :
    bodyPre m hO c t ⊢ wp frame (wpE (defs₀ (F := F)) Variants.none c none) Set.univ (bodyAt (adm m hO) t) (fun _ => bodyPost m hO c t) := by
  have hn : (num m hO t).val = t.val := num_val m hO t
  unfold bodyPre bodyPost bodyAt
  simp only [before0_0, before0_1, before0_2, before0_3]
  rw [show (dats m hO 0 c).Φ t.castSucc = Inv m c (num m hO t).val from congrArg (Inv m c) hn.symm,
    show (dats m hO 0 c).Φ t.succ = Inv m c ((num m hO t).val + 1) from congrArg (fun k => Inv m c (k + 1)) hn.symm,
    show (dats m hO 0 c).owesAt () t.succ = (dats m hO 0 c).owesAt () t.castSucc from rfl,
    after0_0, after0_1, after0_2, after0_3, after0_4, iblk0_eq, iblk1_eq m h, iblk2_eq m h, iblk3_eq m h]
  unfold Inv
  iintro ⟨⟨⟨%g, %u, %d, HS0, HS1, HS2, %hk⟩, Hg, HT0, HT1⟩, Ho, ⟨%d0, H0⟩, ⟨%d1, H1⟩, ⟨%d2, H2⟩, ⟨%d3, H3⟩, ⟨%d4, H4⟩⟩
  iapply (body_triple c (grid0.coords t) _ _ _ _ _ _ _ _ _ _ _ _ _ _ _ _ (xrows m c (num m hO t)) (result m c (num m hO t))
    (wblk (V m c main_arg3) (expert m (num m hO t))) (wblk (V m c main_arg4) (expert m (num m hO t))) (wblk (V m c main_arg5) (expert m (num m hO t)))
    g u d (gateW m c (expert m (num m hO t))) (upW m c (expert m (num m hO t))) (downW m c (expert m (num m hO t))) (tbl m 0) (tbl m 1)
    (weights m c (grid0.coords t) hk) (leaves m h c (grid0.coords t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2]
    · iexists _, _, _
      isplitl [HS0]; · iexact HS0
      isplitl [HS1]; · iexact HS1
      isplitl [HS2]; · iexact HS2
      ipureintro
      exact kept_next m c (num m hO t)
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.ExpertsIdeal.Run

end
-- ==== Proof.ExpertsLaunch.lean ====
/-
  The experts' launch run to its end: the obligation at every point, the invariant entered and left, and the frame.
-/
module

public import proofs.«01_k».proof.Proof.ExpertsRun
public import Idealize.ShloMosaic.Lib.Claim

@[expose] public section

set_option maxRecDepth 16384

noncomputable section

namespace Cert.ExpertsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_obligation (h : Good m) (hO : Ok m) (c : Dev nD) :
    BodyObligation (dats (F := F) m hO 0 c) (defs₀ (F := F)) Variants.none () Set.univ := fun t => by
  rw [bigSep_W0, bigSep_W0, defs₀_row m hO]
  have hs := sound_body m h hO c t
  have hf : ((cfgM m hO).win 4).flush t = true := flush0_4 (adm m hO) t
  dsimp only
  refine triple_restated hs rfl .rfl fun _ => ?_
  unfold bodyPost
  refine sep_mono .rfl (sep_mono .rfl (sep_mono .rfl (sep_mono .rfl (sep_mono .rfl (sep_mono .rfl ?_)))))
  split
  · split
    · rename_i hh
      exact absurd (hf.symm.trans hh) (by decide)
    · exact .rfl
  · exact .rfl

/-! ## The run -/

theorem enter (hO : Ok m) (c : Dev nD) : iprop(Pipeline.ΦA spec0 c ∗ Pipeline.ΦT pre0 (tbl m) c) ⊢ (dats m hO 0 c).Φ 0 := by
  rw [show (dats m hO 0 c).Φ 0 = Inv m c 0 from rfl, scratch_eq, tables_eq]
  unfold Inv
  iintro ⟨⟨⟨⟨%g, H0⟩, ⟨%u, H1⟩, ⟨%d, H2⟩⟩, Hg⟩, HT0, HT1⟩
  isplitl [H0 H1 H2]
  · iexists g, u, d
    isplitl [H0]; · iexact H0
    isplitl [H1]; · iexact H1
    isplitl [H2]; · iexact H2
    ipureintro
    exact fun k hk => absurd hk (Nat.succ_ne_zero _)
  isplitl [Hg]; · iexact Hg
  isplitl [HT0]; · iexact HT0
  iexact HT1

theorem leave (hO : Ok m) (c : Dev nD) : (dats m hO 0 c).Φ (Fin.last (cfgM m hO).N) ⊢ Pipeline.ΦA spec0 c := by
  rw [show (dats m hO 0 c).Φ (Fin.last (cfgM m hO).N) = Inv m c (cfgM m hO).N from rfl, scratch_eq]
  unfold Inv
  iintro ⟨⟨%g, %u, %d, H0, H1, H2, %hk⟩, Hg, HT0, HT1⟩
  isplitl [H0 H1 H2]
  · isplitl [H0]; · iexists g; iexact H0
    isplitl [H1]; · iexists u; iexact H1
    iexists d; iexact H2
  iexact Hg

set_option backward.isDefEq.respectTransparency.types false in
/-- Every execution ends, the arrays as the data say and every semaphore at zero. -/
theorem run_main (h : Good m) (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m h hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The run read: the result's array, the arguments kept, the semaphores at zero. -/
theorem run_blocks (h : Good m) (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ h hO)

/-- Under good tables the program ends with its arguments kept and every semaphore at zero. -/
theorem run_frame (h : Good m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_blocks m ρ h h.ok)

end Cert.ExpertsIdeal.Run

end
-- ==== Proof.ExpertsAnswer.lean ====
/-
  The experts' feed-forward in one row's terms, and the kernel's matrix products read as that.
-/
module

public import proofs.«01_k».proof.Proof.ExpertsLaunch
public import Idealize.ShloMosaic.Lib.Pointwise

@[expose] public section

set_option maxRecDepth 16384

noncomputable section

namespace Cert.Experts.Answer

open Idealize.ShloMosaic
open Cert.ExpertsIdeal Cert.ExpertsIdeal.Gen Cert.ExpertsIdeal.Run

/-- A gate's opening: its value over one plus the exponential of its negative. -/
def silu (z : EReal) : EReal := Ideal.div z (1 + Ideal.exp (-z))

/-- A row's product with a column. -/
def dot (x : Fin 1024 → EReal) (w : Fin 1024 → Fin 1024 → EReal) (f : Fin 1024) : EReal := ∑ e : Fin 1024, x e * w e f

/-- The expert's answer to a row: the gated hidden values times the last weights. -/
def answer (x : Fin 1024 → EReal) (g u d : Fin 1024 → Fin 1024 → EReal) (j : Fin 1024) : EReal :=
  dot (fun f => silu (dot x g f) * dot x u f) d j

/-- What every block's expert answers, at a row of the arrays and a lane: a token's eight rows hold its 1024 values, and a
    block without tokens holds zeros. -/
def answers (be cnt : Fin 82 → BitVec 32) (X : Fin 335872 → Fin 128 → EReal) (G U D : Fin 16 → Fin 1024 → Fin 1024 → EReal)
    (R : Fin 335872) (l : Fin 128) : EReal :=
  if 0 < (cnt ⟨R.val / 4096, by omega⟩).toInt then
    answer (fun e => X ⟨4096 * (R.val / 4096) + 8 * (R.val % 4096 / 8) + e.val / 128, by omega⟩ ⟨e.val % 128, by omega⟩)
      (G ⟨(be ⟨R.val / 4096, by omega⟩).toNat % 16, by omega⟩) (U ⟨(be ⟨R.val / 4096, by omega⟩).toNat % 16, by omega⟩)
      (D ⟨(be ⟨R.val / 4096, by omega⟩).toNat % 16, by omega⟩) ⟨128 * (R.val % 8) + l.val, by omega⟩
  else 0

/-- The rows put together of their parts. -/
def together (x : Vec Ideal S4096x128 .f32) : FVec Ideal S512x1024 .f32 :=
  concatenate S512x1024 1 [⟨S512x128, part x 0⟩, ⟨S512x128, part x 1⟩, ⟨S512x128, part x 2⟩, ⟨S512x128, part x 3⟩, ⟨S512x128, part x 4⟩,
    ⟨S512x128, part x 5⟩, ⟨S512x128, part x 6⟩, ⟨S512x128, part x 7⟩]
    concatenates_S512x128_S512x128_S512x128_S512x128_S512x128_S512x128_S512x128_S512x128_S512x1024_d1

theorem together_apply (x : Vec Ideal S4096x128 .f32) (r : Fin 512) (e : Fin 1024) :
    together x (ix2 r e) = x (ix2 (n0 := 4096) (n1 := 128) ⟨8 * r.val + e.val / 128, by omega⟩ ⟨e.val % 128, by omega⟩) := by
  have key : ∀ (a b : ℕ) (ha : a < 4096) (hb : b < 128), a = 8 * r.val + e.val / 128 → b = e.val % 128 →
      x (ix2 (n0 := 4096) (n1 := 128) ⟨a, ha⟩ ⟨b, hb⟩) = x (ix2 (n0 := 4096) (n1 := 128) ⟨8 * r.val + e.val / 128, by omega⟩ ⟨e.val % 128, by omega⟩) := by
    intro a b ha hb h1 h2
    subst h1 h2
    rfl
  unfold together
  pointwise [part]
  split_ifs <;> exact key _ _ _ _ (by omega) (by omega)

/-- The matrix products over rows put together. -/
def products (X : FVec Ideal S512x1024 .f32) (g u d : FVec Ideal S1024x1024 .bf16) : FVec Ideal S512x1024 .f32 :=
  matmul (φ₂ := .bf16) dot_S512x1024_S1024x1024_S512x1024_1_0_0_1_n_n none (truncf .bf16
    (mulf (divf (matmul (φ₂ := .bf16) dot_S512x1024_S1024x1024_S512x1024_1_0_0_1_n_n none (truncf .bf16 X bitsLt_bf16_f32) g (constant S512x1024 .f32 0x00000000#32))
      (addf (broadcast S512x1024 (Scalar.ofBits .f32 0x3F800000#32)) (exp (subf (broadcast S512x1024 (Scalar.ofBits .f32 0x00000000#32))
        (matmul (φ₂ := .bf16) dot_S512x1024_S1024x1024_S512x1024_1_0_0_1_n_n none (truncf .bf16 X bitsLt_bf16_f32) g (constant S512x1024 .f32 0x00000000#32))))))
      (matmul (φ₂ := .bf16) dot_S512x1024_S1024x1024_S512x1024_1_0_0_1_n_n none (truncf .bf16 X bitsLt_bf16_f32) u (constant S512x1024 .f32 0x00000000#32))) bitsLt_bf16_f32)
    d (constant S512x1024 .f32 0x00000000#32)

theorem mix_eq (x : Vec Ideal S4096x128 .f32) (g u d : Vec Ideal S1024x1024 .bf16) : mix x g u d = products (together x) g u d := rfl

theorem products_apply (X : FVec Ideal S512x1024 .f32) (g u d : FVec Ideal S1024x1024 .bf16) (r : Fin 512) (j : Fin 1024) :
    products X g u d (ix2 r j)
      = answer (fun e => X (ix2 r e)) (fun e f => g (ix2 e f)) (fun e f => u (ix2 e f)) (fun f j => d (ix2 f j)) j := by
  unfold products answer dot silu
  pointwise
  simp only [zero_sub]

end Cert.Experts.Answer

end
-- ==== Proof.ExpertsReference.lean ====
/-
  The experts' reference read at a row and a column: the same feed-forward by the block's expert.
-/
module

public import proofs.«01_k».proof.Proof.Gen.ExpertsReferenceIdeal.Run
public import proofs.«01_k».proof.Proof.ExpertsAnswer
public import Idealize.ShloMosaic.Lib.Pointwise
public import Idealize.ShloMosaic.Lib.ValueIdxCore

@[expose] public section

set_option maxRecDepth 16384

noncomputable section

namespace Cert.Experts.Answer.Reference

open Idealize.ShloMosaic
open Cert.ExpertsReferenceIdeal Cert.ExpertsReferenceIdeal.Gen

/-- The sixteen experts' matrices taken at the blocks' experts. -/
theorem gather_apply (x : FVec Ideal S16x1024x1024 .f32) (idx : IVec S82x1 32) (n : Fin 82) (a b : Fin 1024) :
    Host.gather gather_S16x1024x1024_S82x1_S82x1024x1024_12_0_n_n_0_1_110241024 x idx (ix3 n a b)
      = x (ix3 (n0 := 16) (n1 := 1024) (n2 := 1024) ⟨min (idx (ix2 n 0)).toInt.toNat 15, by omega⟩ a b) := by
  have hsi : ∀ k, (gather_S16x1024x1024_S82x1_S82x1024x1024_12_0_n_n_0_1_110241024).siIdx (ix3 n a b) k = ix2 n 0 := by
    intro k
    funext q; refine Fin.ext ?_
    match q with
    | ⟨0, _⟩ => rfl
    | ⟨1, _⟩ =>
      have h : k.val < 1 := k.isLt
      show k.val = 0
      omega
  unfold Host.gather
  congr 1
  funext q
  refine Fin.ext ?_
  match q with
  | ⟨0, _⟩ =>
    show (gather_S16x1024x1024_S82x1_S82x1024x1024_12_0_n_n_0_1_110241024).start (ix3 n a b) idx 0 + (gather_S16x1024x1024_S82x1_S82x1024x1024_12_0_n_n_0_1_110241024).batchCoord (ix3 n a b) 0
      + (gather_S16x1024x1024_S82x1_S82x1024x1024_12_0_n_n_0_1_110241024).offCoord (ix3 n a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather_S16x1024x1024_S82x1_S82x1024x1024_12_0_n_n_0_1_110241024).startIndexMap from List.mem_singleton.mpr rfl), hsi]
    rfl
  | ⟨1, _⟩ =>
    show (gather_S16x1024x1024_S82x1_S82x1024x1024_12_0_n_n_0_1_110241024).start (ix3 n a b) idx 1 + (gather_S16x1024x1024_S82x1_S82x1024x1024_12_0_n_n_0_1_110241024).batchCoord (ix3 n a b) 1 + (gather_S16x1024x1024_S82x1_S82x1024x1024_12_0_n_n_0_1_110241024).offCoord (ix3 n a b) 1 = _
    rw [GatherDims.batchCoord_eq_zero _ _ _ List.not_mem_nil]
    unfold GatherDims.start GatherDims.offCoord
    rw [dif_neg (show ¬ (1 : Fin 3) ∈ (gather_S16x1024x1024_S82x1_S82x1024x1024_12_0_n_n_0_1_110241024).startIndexMap by decide), dif_pos (show (1 : Fin 3) ∈ (gather_S16x1024x1024_S82x1_S82x1024x1024_12_0_n_n_0_1_110241024).sKept by decide)]
    simp only [Nat.zero_add]
    rfl
  | ⟨2, _⟩ =>
    show (gather_S16x1024x1024_S82x1_S82x1024x1024_12_0_n_n_0_1_110241024).start (ix3 n a b) idx 2 + (gather_S16x1024x1024_S82x1_S82x1024x1024_12_0_n_n_0_1_110241024).batchCoord (ix3 n a b) 2 + (gather_S16x1024x1024_S82x1_S82x1024x1024_12_0_n_n_0_1_110241024).offCoord (ix3 n a b) 2 = _
    rw [GatherDims.batchCoord_eq_zero _ _ _ List.not_mem_nil]
    unfold GatherDims.start GatherDims.offCoord
    rw [dif_neg (show ¬ (2 : Fin 3) ∈ (gather_S16x1024x1024_S82x1_S82x1024x1024_12_0_n_n_0_1_110241024).startIndexMap by decide), dif_pos (show (2 : Fin 3) ∈ (gather_S16x1024x1024_S82x1_S82x1024x1024_12_0_n_n_0_1_110241024).sKept by decide)]
    simp only [Nat.zero_add]
    rfl

section Any

variable {F : FTy → Type} [FloatOps F]

/-- The blocks' experts, an entry below zero counted from the end. -/
def chosen (be : IVec S82 32) : IVec S82x1 32 :=
  broadcastInDim S82x1 ![0] bcast_S82_S82x1_0
    (select (cmpi .slt be (broadcastInDim S82 ![] bcast_S_S82 (constantI S_ 32 0#32)))
      (addi be (broadcastInDim S82 ![] bcast_S_S82 (constantI S_ 32 16#32))) be)

/-- A layer's matrices, one for each block. -/
def weights (w : FVec F S2x16x1024x1024 .f32) (idx : IVec S82x1 32) : FVec F S82x1024x1024 .f32 :=
  Host.gather gather_S16x1024x1024_S82x1_S82x1024x1024_12_0_n_n_0_1_110241024
    (shapeCast _ (extractStridedSlice S1x16x1024x1024 ![0, 0, 0, 0] w slices_S2x16x1024x1024_S1x16x1024x1024_0_0_0_0) shapeCasts_S1x16x1024x1024_S16x1024x1024) idx

/-- The blocks' rows. -/
def blocks (x : FVec F S335872x128 .f32) : FVec F S82x512x1024 .f32 := shapeCast _ x shapeCasts_S335872x128_S82x512x1024

/-- Each block's product with its matrix. -/
def product (x : FVec F S82x512x1024 .f32) (w : FVec F S82x1024x1024 .f32) : FVec F S82x512x1024 .f32 :=
  Host.dotGeneral dot_S82x512x1024_S82x1024x1024_S82x512x1024_2_1_1_2_0_0 none x w

/-- The gate: a value times the logistic function of it. -/
def gate (z : FVec F S82x512x1024 .f32) : FVec F S82x512x1024 .f32 :=
  mulf z (Host.divf (broadcastInDim S82x512x1024 ![] bcast_S_S82x512x1024 (constant S_ .f32 0x3F800000#32))
    (addf (broadcastInDim S82x512x1024 ![] bcast_S_S82x512x1024 (constant S_ .f32 0x3F800000#32)) (Host.exp (Host.negf z))))

/-- The blocks that hold rows, laid out as the rows came. -/
def shown (cnt : IVec S82 32) (o : FVec F S82x512x1024 .f32) : FVec F S335872x128 .f32 :=
  shapeCast _ (select
    (broadcastInDim S82x512x1024 ![0, 1, 2] bcast_S82x1x1_S82x512x1024_0_1_2
      (broadcastInDim S82x1x1 ![0] bcast_S82_S82x1x1_0 (cmpi .sgt cnt (broadcastInDim S82 ![] bcast_S_S82 (constantI S_ 32 0#32)))))
    o (broadcastInDim S82x512x1024 ![] bcast_S_S82x512x1024 (id (constant S_ .f32 0x00000000#32)))) shapeCasts_S82x512x1024_S335872x128

/-- The whole answer of the arguments. -/
def whole (be cnt : IVec S82 32) (x : FVec F S335872x128 .f32) (g u d : FVec F S2x16x1024x1024 .f32) : FVec F S335872x128 .f32 :=
  shown cnt (product (mulf (gate (product (blocks x) (weights g (chosen be)))) (product (blocks x) (weights u (chosen be)))) (weights d (chosen be)))

/-- The reference's run, its result by these steps. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.ExpertsReferenceIdeal.Value.run m ρ)

end Any

/-- An entry in the range is the expert it names. -/
theorem chosen_apply (be : IVec S82 32) (hb : ∀ n, (be (ix1 n)).toNat < 16) (n : Fin 82) :
    min (chosen be (ix2 n 0)).toInt.toNat 15 = (be (ix1 n)).toNat := by
  have h := hb n
  have hi : (be (ix1 n)).toInt = (be (ix1 n)).toNat := by rw [BitVec.toInt_eq_toNat_cond, if_pos (by omega)]
  have hc : chosen be (ix2 n 0) = be (ix1 n) := by
    pointwise [chosen]
    generalize hw : be (ix1 n) = w at *
    have : ¬ (w.toInt < 0) := by omega
    simp [IntOp.cmpi, BitVec.slt, Scalar.select, this]
  rw [hc, hi]
  omega

theorem weights_apply (w : FVec Ideal S2x16x1024x1024 .f32) (idx : IVec S82x1 32) (n : Fin 82) (a b : Fin 1024) :
    weights w idx (ix3 n a b) = w (ix4 (n0 := 2) (n1 := 16) (n2 := 1024) (n3 := 1024) 0 ⟨min (idx (ix2 n 0)).toInt.toNat 15, by omega⟩ a b) := by
  unfold weights
  rw [gather_apply]
  pointwise

theorem blocks_apply (x : FVec Ideal S335872x128 .f32) (n : Fin 82) (r : Fin 512) (e : Fin 1024) :
    blocks x (ix3 n r e) = x (ix2 (n0 := 335872) (n1 := 128) ⟨4096 * n.val + 8 * r.val + e.val / 128, by omega⟩ ⟨e.val % 128, by omega⟩) := by
  pointwise [blocks]
  exact congrArg (fun k => x (ix2 (n0 := 335872) (n1 := 128) k _)) (Fin.ext (by show n.val * 4096 + r.val * 8 + e.val / 128 = 4096 * n.val + 8 * r.val + e.val / 128; omega))

theorem product_apply (x : FVec Ideal S82x512x1024 .f32) (w : FVec Ideal S82x1024x1024 .f32) (n : Fin 82) (r : Fin 512) (j : Fin 1024) :
    product x w (ix3 n r j) = dot (fun e => x (ix3 n r e)) (fun e f => w (ix3 n e f)) j := by
  unfold dot
  pointwise [product]

/-- One over a sum with an exponential. -/
theorem gate_eq (z : EReal) : z * Ideal.div 1 (1 + Ideal.exp (-z)) = silu z := by
  have h : (1 : EReal) + Ideal.exp (-z) ≠ 0 := by
    have h0 : (0 : EReal) ≤ Ideal.exp (-z) := by
      induction z using EReal.rec with
      | bot => exact le_top
      | coe r => exact EReal.coe_nonneg.mpr (Real.exp_pos _).le
      | top => exact le_refl _
    have h1 : (0 : EReal) < 1 := by norm_num
    exact (lt_of_lt_of_le h1 (le_add_of_nonneg_right h0)).ne'
  unfold silu Ideal.div
  rw [if_neg h, if_neg h, one_mul]

theorem gate_apply (z : FVec Ideal S82x512x1024 .f32) (i : S82x512x1024.Idx) : gate z i = silu (z i) := by
  rw [← gate_eq]
  pointwise [gate]

theorem shown_apply (cnt : IVec S82 32) (o : FVec Ideal S82x512x1024 .f32) (R : Fin 335872) (l : Fin 128) :
    shown cnt o (ix2 R l)
      = if 0 < (cnt (ix1 (n0 := 82) ⟨R.val / 4096, by omega⟩)).toInt then
          o (ix3 (n0 := 82) (n1 := 512) (n2 := 1024) ⟨R.val / 4096, by omega⟩ ⟨R.val % 4096 / 8, by omega⟩ ⟨128 * (R.val % 8) + l.val, by omega⟩) else 0 := by
  pointwise [shown]
  have e1 : (⟨R.val / 8 % 512, by omega⟩ : Fin 512) = ⟨R.val % 4096 / 8, by omega⟩ := Fin.ext (by show R.val / 8 % 512 = R.val % 4096 / 8; omega)
  have e2 : (⟨R.val % 8 * 128 + l.val, by omega⟩ : Fin 1024) = ⟨128 * (R.val % 8) + l.val, by omega⟩ := Fin.ext (by show R.val % 8 * 128 + l.val = 128 * (R.val % 8) + l.val; omega)
  rw [e1, e2]
  generalize cnt (ix1 (n0 := 82) ⟨R.val / 4096, by omega⟩) = w
  by_cases h : 0 < w.toInt
  · rw [if_pos h]
    simp [IntOp.cmpi, BitVec.slt, Scalar.select, h]
  · rw [if_neg h]
    simp [IntOp.cmpi, BitVec.slt, Scalar.select, h]
    exact Ideal.ofBits_zero_f32

/-- The reference's answer, where every expert is one of sixteen. -/
theorem whole_apply (be cnt : IVec S82 32) (x : FVec Ideal S335872x128 .f32) (g u d : FVec Ideal S2x16x1024x1024 .f32)
    (hb : ∀ n, (be (ix1 n)).toNat < 16) (R : Fin 335872) (l : Fin 128) :
    whole be cnt x g u d (ix2 R l)
      = answers (fun n => be (ix1 n)) (fun n => cnt (ix1 n)) (fun r l => x (ix2 r l)) (fun k e f => g (ix4 0 k e f)) (fun k e f => u (ix4 0 k e f))
          (fun k e f => d (ix4 0 k e f)) R l := by
  have hw : ∀ (w : FVec Ideal S2x16x1024x1024 .f32) (n : Fin 82) (a b : Fin 1024),
      weights w (chosen be) (ix3 n a b) = w (ix4 (n0 := 2) (n1 := 16) (n2 := 1024) (n3 := 1024) 0 ⟨(be (ix1 n)).toNat % 16, by omega⟩ a b) := by
    intro w n a b
    rw [weights_apply]
    exact congrArg (fun k => w (ix4 (n0 := 2) (n1 := 16) (n2 := 1024) (n3 := 1024) 0 k a b))
      (Fin.ext (by show min _ 15 = _ % 16; rw [chosen_apply be hb, Nat.mod_eq_of_lt (hb n)]))
  unfold whole answers answer
  rw [shown_apply]
  refine if_congr Iff.rfl ?_ rfl
  rw [product_apply]
  simp only [hw]
  refine congrArg (fun v => dot v _ _) (funext fun f => ?_)
  show gate _ _ * product _ _ _ = _
  rw [gate_apply, product_apply, product_apply]
  simp only [hw, blocks_apply]

end Cert.Experts.Answer.Reference

end
-- ==== Proof.ExpertsArray.lean ====
/-
  What the experts' kernel leaves in its result array: every block's expert's answers to its rows.
-/
module

public import proofs.«01_k».proof.Proof.ExpertsAnswer
public import Idealize.ShloMosaic.Lib.Pipeline.ValueKit
public import Idealize.ShloMosaic.Lib.IdealHost

@[expose] public section

set_option maxRecDepth 16384

noncomputable section

namespace Cert.Experts.Answer

open Idealize.ShloMosaic Idealize.ShloMosaic.TcCoe
open Idealize.ShloMosaic.Pipeline (Dat)
open Cert.ExpertsIdeal Cert.ExpertsIdeal.Gen Cert.ExpertsIdeal.Run

variable (m : (ℓ : Loc nD τ sig) → Buf (Elt Ideal) ℓ)

theorem pay1_apply (w : FVec Ideal S1x1x1024x1024 .f32) (a b : Fin 1024) : (k0_pay1 (F := Ideal) w : FVec Ideal S1024x1024 .bf16) (ix2 a b) = w (ix4 0 0 a b) := by
  pointwise [k0_pay1]
theorem pay2_apply (w : FVec Ideal S1x1x1024x1024 .f32) (a b : Fin 1024) : (k0_pay2 (F := Ideal) w : FVec Ideal S1024x1024 .bf16) (ix2 a b) = w (ix4 0 0 a b) := by
  pointwise [k0_pay2]
theorem pay3_apply (w : FVec Ideal S1x1x1024x1024 .f32) (a b : Fin 1024) : (k0_pay3 (F := Ideal) w : FVec Ideal S1024x1024 .bf16) (ix2 a b) = w (ix4 0 0 a b) := by
  pointwise [k0_pay3]

/-- A device's answers, of its arguments. -/
abbrev final (c : Dev nD) : Fin 335872 → Fin 128 → EReal :=
  answers (expert m) (rows m) (fun r l => V m c main_arg2 (ix2 r l)) (fun k e f => V m c main_arg3 (ix4 0 k e f))
    (fun k e f => V m c main_arg4 (ix4 0 k e f)) (fun k e f => V m c main_arg5 (ix4 0 k e f))

theorem result_apply (h : Good m) (c : Dev nD) (R : Fin 335872) (l : Fin 128) :
    result m c ⟨R.val / 4096, by omega⟩ (ix2 (n0 := 4096) (n1 := 128) ⟨R.val % 4096, by omega⟩ l) = final m c R l := by
  have hn := h.nonneg ⟨R.val / 4096, by omega⟩
  unfold result final answers
  by_cases e : (rows m ⟨R.val / 4096, by omega⟩).toInt = 0
  · rw [if_pos e, if_neg (by omega)]
    exact Ideal.ofBits_zero_f32
  · rw [if_neg e, if_pos (by omega)]
    unfold tile
    rw [mix_eq]
    refine (products_apply _ _ _ _ _ _).trans ?_
    have ej : (⟨128 * (R.val % 4096 % 8) + l.val, by omega⟩ : Fin 1024) = ⟨128 * (R.val % 8) + l.val, by omega⟩ := Fin.ext (by show 128 * (R.val % 4096 % 8) + l.val = 128 * (R.val % 8) + l.val; omega)
    refine congr (congr (congr (congr (congrArg answer (funext fun e => ?_)) (funext fun a => funext fun b => ?_)) (funext fun a => funext fun b => ?_))
      (funext fun a => funext fun b => ?_)) ej
    · rw [together_apply]
      unfold xrows
      exact congrArg (fun k => V m c main_arg2 (ix2 k _)) (Fin.ext (by
        show 4096 * (R.val / 4096) + (8 * (R.val % 4096 / 8) + e.val / 128) = 4096 * (R.val / 4096) + 8 * (R.val % 4096 / 8) + e.val / 128
        omega))
    · unfold gateW
      rw [pay1_apply]
      rfl
    · unfold upW
      rw [pay2_apply]
      rfl
    · unfold downW
      rw [pay3_apply]
      rfl

theorem result_at (h : Good m) (c : Dev nD) (n : Fin 82) (y : S4096x128.Idx) (i : S335872x128.Idx) (h0 : (i 0).val = 4096 * n.val + (y 0).val)
    (h1 : (i 1).val = (y 1).val) : result m c n y = final m c (i 0) (i 1) := by
  have b0 : (y 0).val < 4096 := (y 0).isLt
  have bi : (i 0).val < 335872 := (i 0).isLt
  have en : n = ⟨(i 0).val / 4096, by omega⟩ := Fin.ext (by show n.val = (i 0).val / 4096; omega)
  have ey : y = ix2 (n0 := 4096) (n1 := 128) ⟨(i 0).val % 4096, by omega⟩ (i 1) := by
    funext q
    match q with
    | ⟨0, _⟩ => exact Fin.ext (by show (y 0).val = (i 0).val % 4096; omega)
    | ⟨1, _⟩ => exact Fin.ext h1.symm
  exact (congrArg₂ (result m c) en ey).trans (result_apply m h c (i 0) (i 1))

/-- The points' blocks make up the result array. -/
theorem covers (hO : Ok m) : ((cfgM m hO).win 4).Covers := by
  have hN : (cfgM m hO).N = 82 := N_0
  refine ⟨fun a => ?_, fun β => ?_⟩
  · match a with
    | ⟨0, _⟩ => exact (by decide : 0 < 4096)
    | ⟨1, _⟩ => exact (by decide : 0 < 128)
  · have n0 : ((cfgM m hO).win 4).nblk (0 : Fin 2) = 82 := by
      show (335872 + 4096 - 1) / 4096 = 82
      norm_num
    have n1 : ((cfgM m hO).win 4).nblk (1 : Fin 2) = 1 := by
      show (128 + 128 - 1) / 128 = 1
      norm_num
    have b0 := (β (0 : Fin 2)).isLt
    have b1 := (β (1 : Fin 2)).isLt
    have b0 := b0.trans_eq n0
    have b1 := b1.trans_eq n1
    have hlt : (β (0 : Fin 2)).val < (cfgM m hO).N := by rw [hN]; exact b0
    have hi : ((cfgM m hO).win 4).index ⟨(β (0 : Fin 2)).val, hlt⟩ = ![(β (0 : Fin 2)).val, 0] := index0 _
    refine ⟨⟨(β (0 : Fin 2)).val, hlt⟩, flush0_4 (adm m hO) _, fun a => ⟨(congrFun hi a).trans ?_, .inl ?_⟩⟩
    · match a with
      | ⟨0, _⟩ => rfl
      | ⟨1, _⟩ => exact (Nat.lt_one_iff.mp b1).symm
    · rfl

/-- The result array. -/
theorem final_array (h : Good m) (hO : Ok m) (c : Dev nD) : (dats m hO 0 c).arrAt 4 (cfgM m hO).N
    = (fun i => final m c (i 0) (i 1) : Vec Ideal S335872x128 .f32) := by
  refine (dats m hO 0 c).arrAt_eq_of_covers 4 _ (covers m hO) fun t hf y => ?_
  · have hi : ((cfgM m hO).win 4).index t = ![t.val, 0] := index0 t
    blk_simp
    rw [after0_4]
    refine result_at m h c _ _ _ ?_ ?_ <;> blk_simp [hi] <;> (have := num_val m hO t; omega)

end Cert.Experts.Answer

end
-- ==== Proof.ExpertsClaims.lean ====
/-
  The experts' claims: the programs run and leave their arguments alone, and the result is the reference's. The kernel
  and its idealized text are the same program, so one run serves both.
-/
module

public import proofs.«01_k».proof.Defs
public import proofs.«01_k».proof.Proof.Gen.Experts
public import proofs.«01_k».proof.Proof.Gen.ExpertsIdeal
public import proofs.«01_k».proof.Proof.Gen.Pre_block_tables
public import proofs.«01_k».proof.Proof.ExpertsLaunch
public import proofs.«01_k».proof.Proof.ExpertsReference
public import proofs.«01_k».proof.Proof.ExpertsArray

@[expose] public section

set_option maxRecDepth 16384
set_option maxHeartbeats 1000000

noncomputable section

namespace Cert.ExpertsClaims

open Idealize.ShloMosaic Idealize.SL.Sem

/-! ## One program under two names -/

theorem main_same : @Cert.Experts.main Bits _ _ = @Cert.ExpertsIdeal.main Bits _ _ := rfl

theorem body_defs_same : @Cert.Experts.defs₀ Bits _ _ = @Cert.ExpertsIdeal.defs₀ Bits _ _ := by
  unfold Cert.Experts.defs₀ Cert.ExpertsIdeal.defs₀
  congr 1
  funext l a
  match l, a with
  | 0, (t, s) => exact rfl

theorem defs_same : @Cert.Experts.defs Bits _ _ = @Cert.ExpertsIdeal.defs Bits _ _ := congrArg (Pipeline.defs Cert.ExpertsIdeal.pcfgs) body_defs_same

/-! ## The runs -/

theorem good (m : (ℓ : Loc Cert.ExpertsIdeal.nD Cert.ExpertsIdeal.τ Cert.ExpertsIdeal.sig) → Buf (Elt Ideal) ℓ) (h : Cert.Pre_ExpertsIdeal m) :
    Cert.ExpertsIdeal.Run.Good m := Cert.ExpertsIdeal.Run.good_of (h 0)

theorem ideal_frame : Cert.quiescent_ExpertsIdeal := fun m ρ h => Cert.ExpertsIdeal.Run.run_frame m ρ (good m h)

theorem bits_frame : Cert.quiescent_Experts := fun m ρ h => by
  have hr := Cert.ExpertsIdeal.Run.run_frame (F := Bits) m ρ (Cert.ExpertsIdeal.Run.good_of (h 0))
  rw [← defs_same, ← main_same] at hr
  exact hr

/-- The reference declares no semaphore. -/
theorem reference_frame : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.Experts.Answer.Reference.run (F := Ideal) m ρ)

/-- The kernel's result is the reference's. -/
theorem algebraic : Cert.algebraic_ExpertsIdeal_ExpertsReferenceIdeal := by
  intro m ρ m' ρ' hpre hagree
  have hg := good m hpre
  refine ⟨fun c => (Cert.ExpertsIdeal.Run.dats m hg.ok 0 c).arrAt 4 (Cert.ExpertsIdeal.Run.cfgM m hg.ok).N,
    (θ_run Cert.ExpertsIdeal.defs _ _).mono (fun _ h => h.1) (Cert.ExpertsIdeal.Run.run_blocks m ρ hg hg.ok), ?_⟩
  refine (θ_run Cert.ExpertsReferenceIdeal.defs _ _).mono (fun _ h c => ⟨(h c).1.trans ?_, (h c).2⟩) (Cert.Experts.Answer.Reference.run (F := Ideal) m' ρ')
  obtain ⟨e0, e1, e2, e3, e4, e5⟩ := hagree c
  obtain rfl : c = 0 := Subsingleton.elim _ _
  rw [e0, e1, e2, e3, e4, e5]
  refine Eq.trans ?_ (Cert.Experts.Answer.final_array m hg hg.ok 0).symm
  funext i
  obtain ⟨R, l, rfl⟩ : ∃ R l, i = ix2 (n0 := 335872) (n1 := 128) R l := ⟨i 0, i 1, by funext a; fin_cases a <;> rfl⟩
  exact Cert.Experts.Answer.Reference.whole_apply _ _ _ _ _ _ hg.lt R l

end Cert.ExpertsClaims

end
-- ==== Proof.lean ====
/-
  The proof of `Cert.Claim`: all programs run and leave their arguments alone, and over the extended reals
  each call's results are its reference's. The attention call and its reference compute, at every index, the same
  attention (`Cert.Attention.result`): Proof/Array.lean and Proof/Reference.lean. The projection call and its reference
  compute the same products of the modulated tokens with the weights (`Cert.Projected`): Proof/ProjectionArray.lean and
  Proof/ProjectionReference.lean. The experts' call and its reference compute the same feed-forward by each block's expert
  (`Cert.Experts.Answer.answers`): Proof/ExpertsArray.lean and Proof/ExpertsReference.lean. The floats' preconditions are read in
  Proof/Precondition.lean, the tables' in Proof/ExpertsTables.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Projection.Frame
public import proofs.«01_k».proof.Proof.Gen.ProjectionIdeal.Frame
public import proofs.«01_k».proof.Proof.Gen.ProjectionIdeal.Value
public import proofs.«01_k».proof.Proof.Gen.ProjectionReferenceIdeal.Run
public import proofs.«01_k».proof.Proof.Gen.Pre_finite_tokens
public import proofs.«01_k».proof.Proof.Gen.Experts
public import proofs.«01_k».proof.Proof.Gen.ExpertsIdeal
public import proofs.«01_k».proof.Proof.Gen.ExpertsReferenceIdeal.Run
public import proofs.«01_k».proof.Proof.Gen.Pre_block_tables
public import proofs.«01_k».proof.Proof.Gen.KernelIdeal.Value
public import proofs.«01_k».proof.Proof.Gen.ReferenceIdeal.Run
public import proofs.«01_k».proof.Proof.Array
public import proofs.«01_k».proof.Proof.Reference
public import proofs.«01_k».proof.Proof.Precondition
public import proofs.«01_k».proof.Proof.ProjectionArray
public import proofs.«01_k».proof.Proof.ProjectionReference
public import proofs.«01_k».proof.Proof.ExpertsClaims
public import Idealize.ShloMosaic.Adequacy
public import Idealize.ShloMosaic.Init

@[expose] public section

noncomputable section

namespace Cert.Proof

open Idealize.ShloMosaic Idealize.SL.Sem

/-- The reference runs, its arguments unchanged; it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Array.run (F := Ideal) m ρ)

/-- The kernel's result is the reference's. -/
theorem algebraic : Cert.algebraic_KernelIdeal_ReferenceIdeal_pre_finite_scores := by
  intro m ρ m' ρ' hpre hagree
  have hreal := fun c => Cert.Precondition.real _ _ _ (hpre c)
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Array.run (F := Ideal) m' ρ')
  obtain ⟨e0, e1, e2⟩ := hagree c
  obtain ⟨hq, hk⟩ := hreal c
  rw [e0, e1, e2]
  refine Eq.trans ?_ (Cert.KernelIdeal.Array.final m c (fun _ _ _ => hq _) (fun _ _ _ => hk _)).symm
  funext i
  obtain ⟨b, x, e, rfl⟩ : ∃ b x e, i = ix3 (n0 := 2) (n1 := 8192) (n2 := 1024) b x e := ⟨i 0, i 1, i 2, by funext a; fin_cases a <;> rfl⟩
  exact Cert.ReferenceIdeal.Array.out_eq _ _ _ hq hk b x e

/-- The projection's reference runs, its arguments unchanged; it declares no semaphore. -/
theorem projection_reference_frame (m : (ℓ : Loc Cert.ProjectionReferenceIdeal.nD Cert.ProjectionReferenceIdeal.τ Cert.ProjectionReferenceIdeal.sig) → Buf (Elt Ideal) ℓ)
    (ρ : Dev Cert.ProjectionReferenceIdeal.nD → PrngReg) :
    θ_run (Cert.ProjectionReferenceIdeal.defs (F := Ideal)) (onTc (τ := Cert.ProjectionReferenceIdeal.τ) (Cert.ProjectionReferenceIdeal.main (F := Ideal))) ⟨m, fun _ => 0, ρ⟩
      (fun r => (∀ c : Dev Cert.ProjectionReferenceIdeal.nD,
        r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
        ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
        ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
        ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
        ∧ r.2.sem = fun _ => 0) :=
  (θ_run Cert.ProjectionReferenceIdeal.defs _ _).mono
    (fun r h => ⟨fun c => by
      obtain ⟨-, -, -, -, -, -, -, hr⟩ := h c
      exact hr, Idealize.ShloMosaic.sem_eq_zero_of_no_sems (by decide) r.2⟩)
    (Cert.ProjectionReferenceIdeal.Array.run (F := Ideal) m ρ)

/-- The projection's results are its reference's. -/
theorem projection_algebraic : Cert.algebraic_ProjectionIdeal_ProjectionReferenceIdeal_pre_finite_tokens := by
  intro m ρ m' ρ' hpre hagree
  have hreal := fun c => Cert.Precondition.realTokens _ _ _ _ (hpre c)
  refine ⟨fun c => (Cert.ProjectionIdeal.Gen.dats m 0 c).arrAt 5 Cert.ProjectionIdeal.cfg0.N,
    fun c => (Cert.ProjectionIdeal.Gen.dats m 0 c).arrAt 6 Cert.ProjectionIdeal.cfg0.N,
    fun c => (Cert.ProjectionIdeal.Gen.dats m 0 c).arrAt 7 Cert.ProjectionIdeal.cfg0.N,
    fun c => (Cert.ProjectionIdeal.Gen.dats m 0 c).arrAt 8 Cert.ProjectionIdeal.cfg0.N,
    fun c => (Cert.ProjectionIdeal.Gen.dats m 0 c).arrAt 9 Cert.ProjectionIdeal.cfg0.N,
    fun c => (Cert.ProjectionIdeal.Gen.dats m 0 c).arrAt 10 Cert.ProjectionIdeal.cfg0.N,
    fun c => (Cert.ProjectionIdeal.Gen.dats m 0 c).arrAt 11 Cert.ProjectionIdeal.cfg0.N, Cert.ProjectionIdeal.Value.run_blocks m ρ, ?_⟩
  refine (θ_run Cert.ProjectionReferenceIdeal.defs _ _).mono (fun _ h c => ?_) (Cert.ProjectionReferenceIdeal.Array.run (F := Ideal) m' ρ')
  obtain ⟨e0, e1, e2, e3⟩ := hagree c
  obtain ⟨⟨hx, hy⟩, hm, hu, hv⟩ := hreal c
  obtain ⟨h0, h1, h2, h3, h4, h5, h6, hr⟩ := h c
  unfold Cert.ProjectionReferenceIdeal.Array.product at h0 h1 h2 h3 h4 h5 h6
  rw [e0, e1, e2, e3] at h0 h1 h2 h3 h4 h5 h6
  refine ⟨h0.trans ?_, h1.trans ?_, h2.trans ?_, h3.trans ?_, h4.trans ?_, h5.trans ?_, h6.trans ?_, hr⟩
  · refine Eq.trans ?_ (Cert.ProjectionIdeal.Array.final5 m c).symm
    funext i
    obtain ⟨b, t, n, rfl⟩ : ∃ b t n, i = ix3 (n0 := 2) (n1 := 8448) (n2 := 512) b t n := ⟨i 0, i 1, i 2, by funext a; fin_cases a <;> rfl⟩
    exact Cert.ProjectionReferenceIdeal.Array.queries_apply _ _ _ _ b t n
  · refine Eq.trans ?_ (Cert.ProjectionIdeal.Array.final6 m c).symm
    funext i
    obtain ⟨b, t, n, rfl⟩ : ∃ b t n, i = ix3 (n0 := 2) (n1 := 8448) (n2 := 512) b t n := ⟨i 0, i 1, i 2, by funext a; fin_cases a <;> rfl⟩
    exact Cert.ProjectionReferenceIdeal.Array.keys_apply _ _ _ _ b t n
  · refine Eq.trans ?_ (Cert.ProjectionIdeal.Array.final7 m c).symm
    funext i
    obtain ⟨b, t, n, rfl⟩ : ∃ b t n, i = ix3 (n0 := 2) (n1 := 8448) (n2 := 1024) b t n := ⟨i 0, i 1, i 2, by funext a; fin_cases a <;> rfl⟩
    exact Cert.ProjectionReferenceIdeal.Array.values_apply _ _ _ _ b t n
  · refine Eq.trans ?_ (Cert.ProjectionIdeal.Array.final8 m c).symm
    funext i
    obtain ⟨b, t, n, rfl⟩ : ∃ b t n, i = ix3 (n0 := 2) (n1 := 8448) (n2 := 1024) b t n := ⟨i 0, i 1, i 2, by funext a; fin_cases a <;> rfl⟩
    exact Cert.ProjectionReferenceIdeal.Array.output_apply _ _ _ _ b t n
  · refine Eq.trans ?_ (Cert.ProjectionIdeal.Array.final9 m c).symm
    funext i
    obtain ⟨b, t, n, rfl⟩ : ∃ b t n, i = ix3 (n0 := 2) (n1 := 8448) (n2 := 1024) b t n := ⟨i 0, i 1, i 2, by funext a; fin_cases a <;> rfl⟩
    exact Cert.ProjectionReferenceIdeal.Array.gateZ_apply _ _ _ _ b t n
  · refine Eq.trans ?_ (Cert.ProjectionIdeal.Array.final10 m c).symm
    funext i
    obtain ⟨b, t, n, rfl⟩ : ∃ b t n, i = ix3 (n0 := 2) (n1 := 8448) (n2 := 1536) b t n := ⟨i 0, i 1, i 2, by funext a; fin_cases a <;> rfl⟩
    exact Cert.ProjectionReferenceIdeal.Array.inputs_apply _ _ _ _ b t n
  · refine Eq.trans ?_ (Cert.ProjectionIdeal.Array.final11 m c (fun _ _ _ => hx _) (fun _ _ _ => hy _) hm hu hv).symm
    funext i
    obtain ⟨b, t, n, rfl⟩ : ∃ b t n, i = ix3 (n0 := 2) (n1 := 8448) (n2 := 128) b t n := ⟨i 0, i 1, i 2, by funext a; fin_cases a <;> rfl⟩
    exact Cert.ProjectionReferenceIdeal.Array.small_apply _ _ _ _ b t n

theorem claim : Cert.Claim := ⟨Cert.Kernel.Gen.facts, Cert.KernelIdeal.Gen.facts, Cert.ReferenceIdeal.Gen.facts,
  Cert.Projection.Gen.facts, Cert.ProjectionIdeal.Gen.facts, Cert.ProjectionReferenceIdeal.Gen.facts,
  Cert.Experts.Gen.facts, Cert.ExpertsIdeal.Gen.facts, Cert.ExpertsReferenceIdeal.Gen.facts,
  Cert.Pre_finite_scores.Gen.facts, Cert.Pre_finite_tokens.Gen.facts, Cert.Pre_block_tables.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Projection.Gen.frame m ρ,
  fun m ρ _ => Cert.ProjectionIdeal.Gen.frame m ρ,
  fun m ρ _ => Cert.ProjectionIdeal.Gen.frame m ρ,
  fun m ρ _ => projection_reference_frame m ρ,
  fun m ρ _ => projection_reference_frame m ρ,
  Cert.ExpertsClaims.bits_frame,
  Cert.ExpertsClaims.ideal_frame,
  Cert.ExpertsClaims.reference_frame,
  fun m ρ _ => Cert.ExpertsClaims.reference_frame m ρ trivial,
  trivial,
  algebraic,
  trivial,
  projection_algebraic,
  trivial,
  Cert.ExpertsClaims.algebraic⟩

end Cert.Proof

end
